-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S64x2x256 Cert.KernelIdeal.S64x1x256
  ∧ IdealRules.bf16_pair.Statement Cert.KernelIdeal.S128x256 Cert.KernelIdeal.S64x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x3584 : Shape := ⟨3, ![2, 896, 3584]⟩
abbrev S2x896x18944 : Shape := ⟨3, ![2, 896, 18944]⟩
abbrev S2x896x2x18944 : Shape := ⟨4, ![2, 896, 2, 18944]⟩
abbrev S1792x2x18944 : Shape := ⟨3, ![1792, 2, 18944]⟩
abbrev S28x2x18944 : Shape := ⟨3, ![28, 2, 18944]⟩
abbrev S2x3584x32 : Shape := ⟨3, ![2, 3584, 32]⟩
abbrev S2x32x18944 : Shape := ⟨3, ![2, 32, 18944]⟩
abbrev S1792x3584 : Shape := ⟨2, ![1792, 3584]⟩
abbrev S1792x18944 : Shape := ⟨2, ![1792, 18944]⟩
abbrev S2x1792x18944 : Shape := ⟨3, ![2, 1792, 18944]⟩
abbrev S2x32x3584 : Shape := ⟨3, ![2, 32, 3584]⟩
abbrev S64x3584 : Shape := ⟨2, ![64, 3584]⟩
abbrev S64x1792 : Shape := ⟨2, ![64, 1792]⟩
abbrev S256x3584 : Shape := ⟨2, ![256, 3584]⟩
abbrev S64x256 : Shape := ⟨2, ![64, 256]⟩
abbrev S1792x256 : Shape := ⟨2, ![1792, 256]⟩
abbrev S1792x2x256 : Shape := ⟨3, ![1792, 2, 256]⟩
abbrev S2x1792x256 : Shape := ⟨3, ![2, 1792, 256]⟩
abbrev S28x2x256 : Shape := ⟨3, ![28, 2, 256]⟩
abbrev S2x32x256 : Shape := ⟨3, ![2, 32, 256]⟩
abbrev S14x1792x256 : Shape := ⟨3, ![14, 1792, 256]⟩
abbrev S2x32x1792 : Shape := ⟨3, ![2, 32, 1792]⟩
abbrev S_ : Shape := ⟨0, ![]⟩
abbrev S1x1792x256 : Shape := ⟨3, ![1, 1792, 256]⟩
abbrev S1792x1x256 : Shape := ⟨3, ![1792, 1, 256]⟩
abbrev S64x1x256 : Shape := ⟨3, ![64, 1, 256]⟩
abbrev S64x2x256 : Shape := ⟨3, ![64, 2, 256]⟩
abbrev S1x64x256 : Shape := ⟨3, ![1, 64, 256]⟩
abbrev S1x128x256 : Shape := ⟨3, ![1, 128, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256 : Shape := ⟨3, ![1, 1, 256]⟩
abbrev S1x256 : Shape := ⟨2, ![1, 256]⟩
abbrev S1x32x1792 : Shape := ⟨3, ![1, 32, 1792]⟩
abbrev S32x1792 : Shape := ⟨2, ![32, 1792]⟩
abbrev S1x32x256 : Shape := ⟨3, ![1, 32, 256]⟩
abbrev S32x256 : Shape := ⟨2, ![32, 256]⟩
abbrev S1792x64 : Shape := ⟨2, ![1792, 64]⟩
abbrev S1x256x256 : Shape := ⟨3, ![1, 256, 256]⟩
abbrev S2x32x2x896 : Shape := ⟨4, ![2, 32, 2, 896]⟩
abbrev S2x896x2x32 : Shape := ⟨4, ![2, 896, 2, 32]⟩

abbrev nBuf : Space → Nat
  | .hbm => 25
  | .vmem => 26
  | .smem => 0
  | _ => 0

abbrev bufTy : (tb : Table) → Fin (tcTables nBuf tb) → BufTy
  | .hbm, ⟨0, _⟩ => ⟨S2x896x3584, .bf16⟩
  | .hbm, ⟨1, _⟩ => ⟨S2x896x18944, .bf16⟩
  | .hbm, ⟨2, _⟩ => ⟨S2x896x2x18944, .bf16⟩
  | .hbm, ⟨3, _⟩ => ⟨S1792x2x18944, .i8⟩
  | .hbm, ⟨4, _⟩ => ⟨S28x2x18944, .bf16⟩
  | .hbm, ⟨5, _⟩ => ⟨S2x3584x32, .bf16⟩
  | .hbm, ⟨6, _⟩ => ⟨S2x32x18944, .bf16⟩
  | .hbm, ⟨7, _⟩ => ⟨S1792x3584, .bf16⟩
  | .hbm, ⟨8, _⟩ => ⟨S1792x18944, .bf16⟩
  | .hbm, ⟨9, _⟩ => ⟨S1792x2x18944, .bf16⟩
  | .hbm, ⟨10, _⟩ => ⟨S2x1792x18944, .i8⟩
  | .hbm, ⟨11, _⟩ => ⟨S2x32x3584, .bf16⟩
  | .hbm, ⟨12, _⟩ => ⟨S64x3584, .bf16⟩
  | .hbm, ⟨13, _⟩ => ⟨S64x1792, .bf16⟩
  | .hbm, ⟨14, _⟩ => ⟨S1792x3584, .bf16⟩
  | .hbm, ⟨15, _⟩ => ⟨S64x3584, .f32⟩
  | .hbm, ⟨16, _⟩ => ⟨S2x32x18944, .f32⟩
  | .hbm, ⟨17, _⟩ => ⟨S64x1792, .bf16⟩
  | .hbm, ⟨18, _⟩ => ⟨S2x896x3584, .bf16⟩
  | .hbm, ⟨19, _⟩ => ⟨S2x32x3584, .f32⟩
  | .hbm, ⟨20, _⟩ => ⟨S2x3584x32, .f32⟩
  | .hbm, ⟨21, _⟩ => ⟨S2x32x2x896, .bf16⟩
  | .hbm, ⟨22, _⟩ => ⟨S2x896x2x32, .bf16⟩
  | .hbm, ⟨23, _⟩ => ⟨S2x32x2x896, .bf16⟩
  | .hbm, ⟨24, _⟩ => ⟨S2x896x2x32, .bf16⟩
  | .local _ .vmem, ⟨0, _⟩ => ⟨S64x3584, .bf16⟩
  | .local _ .vmem, ⟨1, _⟩ => ⟨S256x3584, .bf16⟩
  | .local _ .vmem, ⟨2, _⟩ => ⟨S256x3584, .bf16⟩
  | .local _ .vmem, ⟨3, _⟩ => ⟨S64x256, .bf16⟩
  | .local _ .vmem, ⟨4, _⟩ => ⟨S64x256, .bf16⟩
  | .local _ .vmem, ⟨5, _⟩ => ⟨S1792x256, .bf16⟩
  | .local _ .vmem, ⟨6, _⟩ => ⟨S1792x256, .bf16⟩
  | .local _ .vmem, ⟨7, _⟩ => ⟨S1792x2x256, .bf16⟩
  | .local _ .vmem, ⟨8, _⟩ => ⟨S1792x2x256, .bf16⟩
  | .local _ .vmem, ⟨9, _⟩ => ⟨S2x1792x256, .i8⟩
  | .local _ .vmem, ⟨10, _⟩ => ⟨S2x1792x256, .i8⟩
  | .local _ .vmem, ⟨11, _⟩ => ⟨S28x2x256, .bf16⟩
  | .local _ .vmem, ⟨12, _⟩ => ⟨S28x2x256, .bf16⟩
  | .local _ .vmem, ⟨13, _⟩ => ⟨S2x32x256, .bf16⟩
  | .local _ .vmem, ⟨14, _⟩ => ⟨S2x32x256, .bf16⟩
  | .local _ .vmem, ⟨15, _⟩ => ⟨S64x1792, .bf16⟩
  | .local _ .vmem, ⟨16, _⟩ => ⟨S64x3584, .bf16⟩
  | .local _ .vmem, ⟨17, _⟩ => ⟨S64x3584, .f32⟩
  | .local _ .vmem, ⟨18, _⟩ => ⟨S2x32x256, .f32⟩
  | .local _ .vmem, ⟨19, _⟩ => ⟨S2x32x256, .f32⟩
  | .local _ .vmem, ⟨20, _⟩ => ⟨S64x1792, .bf16⟩
  | .local _ .vmem, ⟨21, _⟩ => ⟨S2x1792x256, .bf16⟩
  | .local _ .vmem, ⟨22, _⟩ => ⟨S14x1792x256, .f32⟩
  | .local _ .vmem, ⟨23, _⟩ => ⟨S2x32x1792, .f32⟩
  | .local _ .vmem, ⟨24, _⟩ => ⟨S256x3584, .bf16⟩
  | .local _ .vmem, ⟨25, _⟩ => ⟨S256x3584, .bf16⟩
  | _, _ => ⟨S2x896x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20

abbrev nD : Nat := 1
abbrev τ : Topo := Topo.v7x

variable {F : FTy → Type} [BitOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![74], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_53 : BitVec 32 := 0#32
  let c14_i32_54 : BitVec 32 := 14#32
  let v54 : BitVec 32 := Scalar.addi c0_i32_53 c14_i32_54
  let c1_i32_55 : BitVec 32 := 1#32
  ⟨c0_i32_53, v54, c1_i32_55⟩
def k1_off1 (k1_t1 : Fin k1_t1_loop.trips) : Fin 3 → Nat :=
  let c0_i32_58 : BitVec 32 := 0#32
  let c0_i32_53 : BitVec 32 := 0#32
  let c1_i32_55 : BitVec 32 := 1#32
  let arg19 : BitVec 32 := Scf.iv c0_i32_53 c1_i32_55 k1_t1
  let c1_i32_57 : BitVec 32 := 1#32
  let v55 : BitVec 32 := Scalar.muli arg19 c1_i32_57
  let v56 : BitVec 32 := Scalar.addi c0_i32_58 v55
  let v58 : Index := Scalar.indexCast v56
  let c0_60 : Index := 0#32
  let c0_61 : Index := 0#32
  ![v58.toNat, 0, 0]
@[reducible] def k1_t2_loop : Scf.Loop 32 :=
  let c0_i32_1 : BitVec 32 := 0#32
  let c28_i32 : BitVec 32 := 28#32
  let v3 : BitVec 32 := Scalar.addi c0_i32_1 c28_i32
  let c1_i32 : BitVec 32 := 1#32
  ⟨c0_i32_1, v3, c1_i32⟩
def k1_off2 (k1_t2 : Fin k1_t2_loop.trips) : Fin 3 → Nat :=
  let c0_i32_50 : BitVec 32 := 0#32
  let c0_i32_1 : BitVec 32 := 0#32
  let c1_i32 : BitVec 32 := 1#32
  let arg19 : BitVec 32 := Scf.iv c0_i32_1 c1_i32 k1_t2
  let c1_i32_49 : BitVec 32 := 1#32
  let v50 : BitVec 32 := Scalar.muli arg19 c1_i32_49
  let v51 : BitVec 32 := Scalar.addi c0_i32_50 v50
  let c64_i32 : BitVec 32 := 64#32
  let v52 : BitVec 32 := Scalar.muli v51 c64_i32
  let v54 : Index := Scalar.indexCast v52
  let c0_52 : Index := 0#32
  ![v54.toNat, 0, 0]
def k1_off3 (k1_t2 : Fin k1_t2_loop.trips) : Fin 2 → Nat :=
  let c0_i32_50 : BitVec 32 := 0#32
  let c0_i32_1 : BitVec 32 := 0#32
  let c1_i32 : BitVec 32 := 1#32
  let arg19 : BitVec 32 := Scf.iv c0_i32_1 c1_i32 k1_t2
  let c1_i32_49 : BitVec 32 := 1#32
  let v50 : BitVec 32 := Scalar.muli arg19 c1_i32_49
  let v51 : BitVec 32 := Scalar.addi c0_i32_50 v50
  let c64_i32 : BitVec 32 := 64#32
  let v52 : BitVec 32 := Scalar.muli v51 c64_i32
  let v63 : Index := Scalar.indexCast v52
  let c0_53 : Index := 0#32
  ![v63.toNat, 0]
def k1_off4 (k1_t2 : Fin k1_t2_loop.trips) : Fin 3 → Nat :=
  let c1_54 : Index := 1#32
  let c0_i32_50 : BitVec 32 := 0#32
  let c0_i32_1 : BitVec 32 := 0#32
  let c1_i32 : BitVec 32 := 1#32
  let arg19 : BitVec 32 := Scf.iv c0_i32_1 c1_i32 k1_t2
  let c1_i32_49 : BitVec 32 := 1#32
  let v50 : BitVec 32 := Scalar.muli arg19 c1_i32_49
  let v51 : BitVec 32 := Scalar.addi c0_i32_50 v50
  let c64_i32 : BitVec 32 := 64#32
  let v52 : BitVec 32 := Scalar.muli v51 c64_i32
  let v71 : Index := Scalar.indexCast v52
  let c0_55 : Index := 0#32
  ![1, v71.toNat, 0]
def k1_off5 (k1_t2 : Fin k1_t2_loop.trips) : Fin 3 → Nat :=
  let c0_58 : Index := 0#32
  let c0_i32_50 : BitVec 32 := 0#32
  let c0_i32_1 : BitVec 32 := 0#32
  let c1_i32 : BitVec 32 := 1#32
  let arg19 : BitVec 32 := Scf.iv c0_i32_1 c1_i32 k1_t2
  let c1_i32_49 : BitVec 32 := 1#32
  let v50 : BitVec 32 := Scalar.muli arg19 c1_i32_49
  let v51 : BitVec 32 := Scalar.addi c0_i32_50 v50
  let c64_i32 : BitVec 32 := 64#32
  let v52 : BitVec 32 := Scalar.muli v51 c64_i32
  let v83 : Index := Scalar.indexCast v52
  let c0_59 : Index := 0#32
  ![0, v83.toNat, 0]
@[reducible] def k1_t3_loop : Scf.Loop 32 :=
  let c0_i32_3 : BitVec 32 := 0#32
  let c14_i32 : BitVec 32 := 14#32
  let v4 : BitVec 32 := Scalar.addi c0_i32_3 c14_i32
  let c1_i32_4 : BitVec 32 := 1#32
  ⟨c0_i32_3, v4, c1_i32_4⟩
def k1_off6 (k1_t3 : Fin k1_t3_loop.trips) : Fin 3 → Nat :=
  let c0_52 : Index := 0#32
  let c0_i32_50 : BitVec 32 := 0#32
  let c0_i32_3 : BitVec 32 := 0#32
  let c1_i32_4 : BitVec 32 := 1#32
  let arg19 : BitVec 32 := Scf.iv c0_i32_3 c1_i32_4 k1_t3
  let c1_i32_49 : BitVec 32 := 1#32
  let v50 : BitVec 32 := Scalar.muli arg19 c1_i32_49
  let v51 : BitVec 32 := Scalar.addi c0_i32_50 v50
  let c128_i32 : BitVec 32 := 128#32
  let v53 : BitVec 32 := Scalar.muli v51 c128_i32
  let v54 : Index := Scalar.indexCast v53
  let c0_53 : Index := 0#32
  ![0, v54.toNat, 0]
def k1_off7 (k1_t3 : Fin k1_t3_loop.trips) (c0_i32_57 : BitVec 32) : Fin 3 → Nat :=
  let c2_i32 : BitVec 32 := 2#32
  let c0_i32_50 : BitVec 32 := 0#32
  let c0_i32_3 : BitVec 32 := 0#32
  let c1_i32_4 : BitVec 32 := 1#32
  let arg19 : BitVec 32 := Scf.iv c0_i32_3 c1_i32_4 k1_t3
  let c1_i32_49 : BitVec 32 := 1#32
  let v50 : BitVec 32 := Scalar.muli arg19 c1_i32_49
  let v51 : BitVec 32 := Scalar.addi c0_i32_50 v50
  let v72 : BitVec 32 := Scalar.muli c2_i32 v51
  let v73 : BitVec 32 := Scalar.addi v72 c0_i32_57
  let v74 : Index := Scalar.indexCast v73
  let c0_58 : Index := 0#32
  let c0_59 : Index := 0#32
  ![v74.toNat, 0, 0]
def k1_off8 (k1_t3 : Fin k1_t3_loop.trips) : Fin 3 → Nat :=
  let c1_69 : Index := 1#32
  let c0_i32_50 : BitVec 32 := 0#32
  let c0_i32_3 : BitVec 32 := 0#32
  let c1_i32_4 : BitVec 32 := 1#32
  let arg19 : BitVec 32 := Scf.iv c0_i32_3 c1_i32_4 k1_t3
  let c1_i32_49 : BitVec 32 := 1#32
  let v50 : BitVec 32 := Scalar.muli arg19 c1_i32_49
  let v51 : BitVec 32 := Scalar.addi c0_i32_50 v50
  let c128_i32_68 : BitVec 32 := 128#32
  let v92 : BitVec 32 := Scalar.muli v51 c128_i32_68
  let v93 : Index := Scalar.indexCast v92
  let c0_70 : Index := 0#32
  ![1, v93.toNat, 0]
def k1_off9 (k1_t3 : Fin k1_t3_loop.trips) (c0_i32_76 : BitVec 32) : Fin 3 → Nat :=
  let c2_i32_75 : BitVec 32 := 2#32
  let c0_i32_50 : BitVec 32 := 0#32
  let c0_i32_3 : BitVec 32 := 0#32
  let c1_i32_4 : BitVec 32 := 1#32
  let arg19 : BitVec 32 := Scf.iv c0_i32_3 c1_i32_4 k1_t3
  let c1_i32_49 : BitVec 32 := 1#32
  let v50 : BitVec 32 := Scalar.muli arg19 c1_i32_49
  let v51 : BitVec 32 := Scalar.addi c0_i32_50 v50
  let v111 : BitVec 32 := Scalar.muli c2_i32_75 v51
  let v112 : BitVec 32 := Scalar.addi v111 c0_i32_76
  let v113 : Index := Scalar.indexCast v112
  let c1_77 : Index := 1#32
  let c0_78 : Index := 0#32
  ![v113.toNat, 1, 0]
def k1_off10 (k1_t3 : Fin k1_t3_loop.trips) : Fin 3 → Nat :=
  let c0_i32_50 : BitVec 32 := 0#32
  let c0_i32_3 : BitVec 32 := 0#32
  let c1_i32_4 : BitVec 32 := 1#32
  let arg19 : BitVec 32 := Scf.iv c0_i32_3 c1_i32_4 k1_t3
  let c1_i32_49 : BitVec 32 := 1#32
  let v50 : BitVec 32 := Scalar.muli arg19 c1_i32_49
  let v51 : BitVec 32 := Scalar.addi c0_i32_50 v50
  let v131 : Index := Scalar.indexCast v51
  let c0_87 : Index := 0#32
  let c0_88 : Index := 0#32
  ![v131.toNat, 0, 0]
def k1_cond2 (i : grid1.Coords) : BitVec 1 :=
  let arg0 : BitVec 32 := BitVec.ofNat 32 (i 0).val
  let c73_i32 : BitVec 32 := 73#32
  let v47 : BitVec 1 := Scalar.cmpi .eq arg0 c73_i32
  let v48 : BitVec 32 := Scalar.extui v47
  let c0_i32_48 : BitVec 32 := 0#32
  let v49 : BitVec 1 := Scalar.cmpi .ne v48 c0_i32_48
  v49

@[reducible] def k1_t4_loop : Scf.Loop 32 :=
  let c0_i32_54 : BitVec 32 := 0#32
  let c14_i32_55 : BitVec 32 := 14#32
  let v57 : BitVec 32 := Scalar.addi c0_i32_54 c14_i32_55
  let c1_i32_56 : BitVec 32 := 1#32
  ⟨c0_i32_54, v57, c1_i32_56⟩
def k1_off11 (k1_t4 : Fin k1_t4_loop.trips) : Fin 3 → Nat :=
  let c0_i32_65 : BitVec 32 := 0#32
  let c0_i32_54 : BitVec 32 := 0#32
  let c1_i32_56 : BitVec 32 := 1#32
  let arg19 : BitVec 32 := Scf.iv c0_i32_54 c1_i32_56 k1_t4
  let c1_i32_64 : BitVec 32 := 1#32
  let v61 : BitVec 32 := Scalar.muli arg19 c1_i32_64
  let v62 : BitVec 32 := Scalar.addi c0_i32_65 v61
  let v63 : Index := Scalar.indexCast v62
  let c0_66 : Index := 0#32
  let c0_67 : Index := 0#32
  ![v63.toNat, 0, 0]
def k1_off12 (k1_t4 : Fin k1_t4_loop.trips) : Fin 2 → Nat :=
  let c0_68 : Index := 0#32
  let c0_i32_65 : BitVec 32 := 0#32
  let c0_i32_54 : BitVec 32 := 0#32
  let c1_i32_56 : BitVec 32 := 1#32
  let arg19 : BitVec 32 := Scf.iv c0_i32_54 c1_i32_56 k1_t4
  let c1_i32_64 : BitVec 32 := 1#32
  let v61 : BitVec 32 := Scalar.muli arg19 c1_i32_64
  let v62 : BitVec 32 := Scalar.addi c0_i32_65 v61
  let c256_i32 : BitVec 32 := 256#32
  let v66 : BitVec 32 := Scalar.muli v62 c256_i32
  let v67 : Index := Scalar.indexCast v66
  ![0, v67.toNat]
@[reducible] def k1_t5_loop : Scf.Loop 32 :=
  let c0_i32_61 : BitVec 32 := 0#32
  let c7_i32 : BitVec 32 := 7#32
  let v60 : BitVec 32 := Scalar.addi c0_i32_61 c7_i32
  let c1_i32_62 : BitVec 32 := 1#32
  ⟨c0_i32_61, v60, c1_i32_62⟩
def k1_off13 (k1_t5 : Fin k1_t5_loop.trips) : Fin 2 → Nat :=
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let c0_i32_66 : BitVec 32 := 0#32
  ![v63.toNat, 0]
def k1_off14 (k1_t5 : Fin k1_t5_loop.trips) : Fin 3 → Nat :=
  let c0_69 : Index := 0#32
  let c0_70 : Index := 0#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32_68 : BitVec 32 := 256#32
  let v66 : BitVec 32 := Scalar.muli v62 c256_i32_68
  let v67 : Index := Scalar.indexCast v66
  ![0, 0, v67.toNat]
def k1_off15 (k1_t5 : Fin k1_t5_loop.trips) : Fin 3 → Nat :=
  let c0_79 : Index := 0#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v79 : Index := Scalar.indexCast v63
  let c0_80 : Index := 0#32
  ![0, v79.toNat, 0]
def k1_off16 (k1_t5 : Fin k1_t5_loop.trips) : Fin 3 → Nat :=
  let c1_83 : Index := 1#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v86 : Index := Scalar.indexCast v63
  let c0_84 : Index := 0#32
  ![1, v86.toNat, 0]
def k1_off17 (k1_t5 : Fin k1_t5_loop.trips) : Fin 3 → Nat :=
  let c2 : Index := 2#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v93 : Index := Scalar.indexCast v63
  let c0_86 : Index := 0#32
  ![2, v93.toNat, 0]
def k1_off18 (k1_t5 : Fin k1_t5_loop.trips) : Fin 3 → Nat :=
  let c3 : Index := 3#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v100 : Index := Scalar.indexCast v63
  let c0_88 : Index := 0#32
  ![3, v100.toNat, 0]
def k1_off19 (k1_t5 : Fin k1_t5_loop.trips) : Fin 3 → Nat :=
  let c4 : Index := 4#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v107 : Index := Scalar.indexCast v63
  let c0_90 : Index := 0#32
  ![4, v107.toNat, 0]
def k1_off20 (k1_t5 : Fin k1_t5_loop.trips) : Fin 3 → Nat :=
  let c5 : Index := 5#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v114 : Index := Scalar.indexCast v63
  let c0_92 : Index := 0#32
  ![5, v114.toNat, 0]
def k1_off21 (k1_t5 : Fin k1_t5_loop.trips) : Fin 3 → Nat :=
  let c6 : Index := 6#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v121 : Index := Scalar.indexCast v63
  let c0_94 : Index := 0#32
  ![6, v121.toNat, 0]
def k1_off22 (k1_t5 : Fin k1_t5_loop.trips) : Fin 3 → Nat :=
  let c7 : Index := 7#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v128 : Index := Scalar.indexCast v63
  let c0_96 : Index := 0#32
  ![7, v128.toNat, 0]
def k1_off23 (k1_t5 : Fin k1_t5_loop.trips) : Fin 3 → Nat :=
  let c8 : Index := 8#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v135 : Index := Scalar.indexCast v63
  let c0_98 : Index := 0#32
  ![8, v135.toNat, 0]
def k1_off24 (k1_t5 : Fin k1_t5_loop.trips) : Fin 3 → Nat :=
  let c9 : Index := 9#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v142 : Index := Scalar.indexCast v63
  let c0_100 : Index := 0#32
  ![9, v142.toNat, 0]
def k1_off25 (k1_t5 : Fin k1_t5_loop.trips) : Fin 3 → Nat :=
  let c10 : Index := 10#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v149 : Index := Scalar.indexCast v63
  let c0_102 : Index := 0#32
  ![10, v149.toNat, 0]
def k1_off26 (k1_t5 : Fin k1_t5_loop.trips) : Fin 3 → Nat :=
  let c11 : Index := 11#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v156 : Index := Scalar.indexCast v63
  let c0_104 : Index := 0#32
  ![11, v156.toNat, 0]
def k1_off27 (k1_t5 : Fin k1_t5_loop.trips) : Fin 3 → Nat :=
  let c12 : Index := 12#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v163 : Index := Scalar.indexCast v63
  let c0_106 : Index := 0#32
  ![12, v163.toNat, 0]
def k1_off28 (k1_t5 : Fin k1_t5_loop.trips) : Fin 3 → Nat :=
  let c13 : Index := 13#32
  let c0_i32_65 : BitVec 32 := 0#32
  let c0_i32_61 : BitVec 32 := 0#32
  let c1_i32_62 : BitVec 32 := 1#32
  let arg19 : BitVec 32 := Scf.iv c0_i32_61 c1_i32_62 k1_t5
  let c1_i32_64 : BitVec 32 := 1#32
  let v61 : BitVec 32 := Scalar.muli arg19 c1_i32_64
  let v62 : BitVec 32 := Scalar.addi c0_i32_65 v61
  let c256_i32 : BitVec 32 := 256#32
  let v63 : BitVec 32 := Scalar.muli v62 c256_i32
  let v170 : Index := Scalar.indexCast v63
  let c0_108 : Index := 0#32
  ![13, v170.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1792x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1792x2x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1792x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S28x2x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x32x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x1792 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x3584 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x3584 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2x32x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S64x1792 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== KernelIdeal.lean ====
variable {F : FTy → Type} [FloatOps F]
-- ==== ReferenceIdeal.lean ====
abbrev S2x896x3584 : Shape := ⟨3, ![2, 896, 3584]⟩
abbrev S2x896x18944 : Shape := ⟨3, ![2, 896, 18944]⟩
abbrev S2x896x2x18944 : Shape := ⟨4, ![2, 896, 2, 18944]⟩
abbrev S1792x2x18944 : Shape := ⟨3, ![1792, 2, 18944]⟩
abbrev S28x2x18944 : Shape := ⟨3, ![28, 2, 18944]⟩
abbrev S2x3584x32 : Shape := ⟨3, ![2, 3584, 32]⟩
abbrev S2x32x18944 : Shape := ⟨3, ![2, 32, 18944]⟩
abbrev S1792x3584 : Shape := ⟨2, ![1792, 3584]⟩
abbrev S1792x1x18944 : Shape := ⟨3, ![1792, 1, 18944]⟩
abbrev S1792x18944 : Shape := ⟨2, ![1792, 18944]⟩
abbrev S_ : Shape := ⟨0, ![]⟩
abbrev S28x64x2x18944 : Shape := ⟨4, ![28, 64, 2, 18944]⟩
abbrev S28x1x2x18944 : Shape := ⟨4, ![28, 1, 2, 18944]⟩
abbrev S1792x1792 : Shape := ⟨2, ![1792, 1792]⟩
abbrev S1792x1792x1 : Shape := ⟨3, ![1792, 1792, 1]⟩
abbrev S1792x1792x2 : Shape := ⟨3, ![1792, 1792, 2]⟩
abbrev S2x32x1792 : Shape := ⟨3, ![2, 32, 1792]⟩
abbrev S1792x2x32 : Shape := ⟨3, ![1792, 2, 32]⟩
abbrev S2x32x3584 : Shape := ⟨3, ![2, 32, 3584]⟩
abbrev S2x896x2x32 : Shape := ⟨4, ![2, 896, 2, 32]⟩

abbrev nBuf : Space → Nat
  | .hbm => 102
  | .vmem => 0
  | .smem => 0
  | _ => 0

abbrev bufTy : (tb : Table) → Fin (tcTables nBuf tb) → BufTy
  | .hbm, ⟨0, _⟩ => ⟨S2x896x3584, .bf16⟩
  | .hbm, ⟨1, _⟩ => ⟨S2x896x18944, .bf16⟩
  | .hbm, ⟨2, _⟩ => ⟨S2x896x2x18944, .bf16⟩
  | .hbm, ⟨3, _⟩ => ⟨S1792x2x18944, .i8⟩
  | .hbm, ⟨4, _⟩ => ⟨S28x2x18944, .bf16⟩
  | .hbm, ⟨5, _⟩ => ⟨S2x3584x32, .bf16⟩
  | .hbm, ⟨6, _⟩ => ⟨S2x32x18944, .bf16⟩
  | .hbm, ⟨7, _⟩ => ⟨S1792x3584, .bf16⟩
  | .hbm, ⟨8, _⟩ => ⟨S1792x2x18944, .bf16⟩
  | .hbm, ⟨9, _⟩ => ⟨S1792x2x18944, .f32⟩
  | .hbm, ⟨10, _⟩ => ⟨S1792x1x18944, .f32⟩
  | .hbm, ⟨11, _⟩ => ⟨S1792x18944, .f32⟩
  | .hbm, ⟨12, _⟩ => ⟨S1792x1x18944, .f32⟩
  | .hbm, ⟨13, _⟩ => ⟨S1792x18944, .f32⟩
  | .hbm, ⟨14, _⟩ => ⟨S1792x18944, .bf16⟩
  | .hbm, ⟨15, _⟩ => ⟨S1792x18944, .f32⟩
  | .hbm, ⟨16, _⟩ => ⟨S1792x18944, .f32⟩
  | .hbm, ⟨17, _⟩ => ⟨S1792x18944, .f32⟩
  | .hbm, ⟨18, _⟩ => ⟨S_, .f32⟩
  | .hbm, ⟨19, _⟩ => ⟨S1792x18944, .f32⟩
  | .hbm, ⟨20, _⟩ => ⟨S1792x18944, .f32⟩
  | .hbm, ⟨21, _⟩ => ⟨S_, .f32⟩
  | .hbm, ⟨22, _⟩ => ⟨S1792x18944, .f32⟩
  | .hbm, ⟨23, _⟩ => ⟨S1792x18944, .f32⟩
  | .hbm, ⟨24, _⟩ => ⟨S1792x18944, .f32⟩
  | .hbm, ⟨25, _⟩ => ⟨S1792x18944, .f32⟩
  | .hbm, ⟨26, _⟩ => ⟨S1792x18944, .f32⟩
  | .hbm, ⟨27, _⟩ => ⟨S1792x18944, .f32⟩
  | .hbm, ⟨28, _⟩ => ⟨S_, .f32⟩
  | .hbm, ⟨29, _⟩ => ⟨S1792x18944, .f32⟩
  | .hbm, ⟨30, _⟩ => ⟨S1792x18944, .f32⟩
  | .hbm, ⟨31, _⟩ => ⟨S1792x18944, .f32⟩
  | .hbm, ⟨32, _⟩ => ⟨S_, .f32⟩
  | .hbm, ⟨33, _⟩ => ⟨S1792x18944, .f32⟩
  | .hbm, ⟨34, _⟩ => ⟨S1792x18944, .f32⟩
  | .hbm, ⟨35, _⟩ => ⟨S1792x18944, .f32⟩
  | .hbm, ⟨36, _⟩ => ⟨S1792x1x18944, .f32⟩
  | .hbm, ⟨37, _⟩ => ⟨S1792x1x18944, .f32⟩
  | .hbm, ⟨38, _⟩ => ⟨S1792x2x18944, .f32⟩
  | .hbm, ⟨39, _⟩ => ⟨S1792x2x18944, .bf16⟩
  | .hbm, ⟨40, _⟩ => ⟨S1792x2x18944, .i32⟩
  | .hbm, ⟨41, _⟩ => ⟨S_, .i32⟩
  | .hbm, ⟨42, _⟩ => ⟨S1792x2x18944, .i32⟩
  | .hbm, ⟨43, _⟩ => ⟨S1792x2x18944, .i32⟩
  | .hbm, ⟨44, _⟩ => ⟨S_, .i32⟩
  | .hbm, ⟨45, _⟩ => ⟨S1792x2x18944, .i32⟩
  | .hbm, ⟨46, _⟩ => ⟨S1792x2x18944, .i32⟩
  | .hbm, ⟨47, _⟩ => ⟨S_, .i32⟩
  | .hbm, ⟨48, _⟩ => ⟨S1792x2x18944, .i32⟩
  | .hbm, ⟨49, _⟩ => ⟨S1792x2x18944, .i1⟩
  | .hbm, ⟨50, _⟩ => ⟨S_, .i32⟩
  | .hbm, ⟨51, _⟩ => ⟨S1792x2x18944, .i32⟩
  | .hbm, ⟨52, _⟩ => ⟨S1792x2x18944, .i32⟩
  | .hbm, ⟨53, _⟩ => ⟨S1792x2x18944, .i32⟩
  | .hbm, ⟨54, _⟩ => ⟨S_, .i32⟩
  | .hbm, ⟨55, _⟩ => ⟨S1792x2x18944, .i32⟩
  | .hbm, ⟨56, _⟩ => ⟨S1792x2x18944, .i1⟩
  | .hbm, ⟨57, _⟩ => ⟨S_, .i32⟩
  | .hbm, ⟨58, _⟩ => ⟨S1792x2x18944, .i32⟩
  | .hbm, ⟨59, _⟩ => ⟨S1792x2x18944, .i32⟩
  | .hbm, ⟨60, _⟩ => ⟨S1792x2x18944, .i32⟩
  | .hbm, ⟨61, _⟩ => ⟨S1792x2x18944, .bf16⟩
  | .hbm, ⟨62, _⟩ => ⟨S28x64x2x18944, .bf16⟩
  | .hbm, ⟨63, _⟩ => ⟨S28x1x2x18944, .bf16⟩
  | .hbm, ⟨64, _⟩ => ⟨S28x64x2x18944, .bf16⟩
  | .hbm, ⟨65, _⟩ => ⟨S28x64x2x18944, .bf16⟩
  | .hbm, ⟨66, _⟩ => ⟨S1792x2x18944, .bf16⟩
  | .hbm, ⟨67, _⟩ => ⟨S1792x2x18944, .bf16⟩
  | .hbm, ⟨68, _⟩ => ⟨S28x64x2x18944, .bf16⟩
  | .hbm, ⟨69, _⟩ => ⟨S28x1x2x18944, .bf16⟩
  | .hbm, ⟨70, _⟩ => ⟨S28x64x2x18944, .bf16⟩
  | .hbm, ⟨71, _⟩ => ⟨S28x64x2x18944, .bf16⟩
  | .hbm, ⟨72, _⟩ => ⟨S1792x2x18944, .bf16⟩
  | .hbm, ⟨73, _⟩ => ⟨S1792x1792, .f32⟩
  | .hbm, ⟨74, _⟩ => ⟨S1792x1792, .f32⟩
  | .hbm, ⟨75, _⟩ => ⟨S1792x1792x1, .f32⟩
  | .hbm, ⟨76, _⟩ => ⟨S1792x1792x1, .f32⟩
  | .hbm, ⟨77, _⟩ => ⟨S1792x1792x2, .f32⟩
  | .hbm, ⟨78, _⟩ => ⟨S1792x3584, .f32⟩
  | .hbm, ⟨79, _⟩ => ⟨S2x32x1792, .f32⟩
  | .hbm, ⟨80, _⟩ => ⟨S1792x2x32, .f32⟩
  | .hbm, ⟨81, _⟩ => ⟨S1792x2x32, .bf16⟩
  | .hbm, ⟨82, _⟩ => ⟨S1792x2x32, .f32⟩
  | .hbm, ⟨83, _⟩ => ⟨S1792x2x32, .bf16⟩
  | .hbm, ⟨84, _⟩ => ⟨S1792x3584, .f32⟩
  | .hbm, ⟨85, _⟩ => ⟨S_, .f32⟩
  | .hbm, ⟨86, _⟩ => ⟨S1792x3584, .f32⟩
  | .hbm, ⟨87, _⟩ => ⟨S1792x3584, .f32⟩
  | .hbm, ⟨88, _⟩ => ⟨S1792x3584, .f32⟩
  | .hbm, ⟨89, _⟩ => ⟨S1792x3584, .bf16⟩
  | .hbm, ⟨90, _⟩ => ⟨S2x896x3584, .bf16⟩
  | .hbm, ⟨91, _⟩ => ⟨S2x32x3584, .f32⟩
  | .hbm, ⟨92, _⟩ => ⟨S2x3584x32, .f32⟩
  | .hbm, ⟨93, _⟩ => ⟨S_, .f32⟩
  | .hbm, ⟨94, _⟩ => ⟨S2x3584x32, .f32⟩
  | .hbm, ⟨95, _⟩ => ⟨S2x3584x32, .f32⟩
  | .hbm, ⟨96, _⟩ => ⟨S2x32x18944, .f32⟩
  | .hbm, ⟨97, _⟩ => ⟨S_, .f32⟩
  | .hbm, ⟨98, _⟩ => ⟨S2x32x18944, .f32⟩
  | .hbm, ⟨99, _⟩ => ⟨S2x32x18944, .f32⟩
  | .hbm, ⟨100, _⟩ => ⟨S2x896x2x32, .bf16⟩
  | .hbm, ⟨101, _⟩ => ⟨S2x896x2x32, .bf16⟩
  | _, _ => ⟨S2x896x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_10 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Proof.Slabs.lean ====
/- Buffers filled slab by slab: `upto p k new old` holds `new` on the slabs before `k` and `old` on the others,
   the slab of a position given by `p`. A store of slab `k` moves the boundary by one. -/
module

public import Idealize.ShloMosaic.Lib.VecWindow

@[expose] public section

noncomputable section

namespace Cert.Slabs

open Idealize.ShloMosaic

variable {α : Type} {s : Shape}

/-- `new` on the slabs before `k`, `old` from slab `k` on; `p y` is the slab of position `y`. -/
def upto (p : s.Idx → ℕ) (k : ℕ) (new old : s.Idx → α) : s.Idx → α :=
  fun y => if p y < k then new y else old y

/-- Before the first slab nothing is new. -/
theorem upto_zero (p : s.Idx → ℕ) (new old : s.Idx → α) : upto p 0 new old = old := by
  funext y; exact if_neg (Nat.not_lt_zero _)

/-- After the last slab everything is new. -/
theorem upto_all (p : s.Idx → ℕ) (k : ℕ) (new old : s.Idx → α) (h : ∀ y, p y < k) : upto p k new old = new := by
  funext y; exact if_pos (h y)

/-- Writing slab `k` of `new` moves the boundary by one. -/
theorem put_upto (p : s.Idx → ℕ) (k : ℕ) (new old : s.Idx → α) (off size : Fin s.rank → ℕ)
    (w : ((a : Fin s.rank) → Fin (size a)) → α)
    (hp : ∀ y : s.Idx, (∀ a, off a ≤ (y a).val ∧ (y a).val < off a + size a) ↔ p y = k)
    (hw : ∀ (y : s.Idx) (h : ∀ a, off a ≤ (y a).val ∧ (y a).val < off a + size a),
      w (Rect.unitLocal (s := s) (off := off) (size := size) y h) = new y) :
    VecWindow.put (upto p k new old) off size w = upto p (k + 1) new old := by
  funext y
  unfold VecWindow.put
  by_cases h : ∀ a, off a ≤ (y a).val ∧ (y a).val < off a + size a
  · rw [dif_pos h, hw y h]
    exact (if_pos (by rw [(hp y).1 h]; exact Nat.lt_succ_self k)).symm
  · rw [dif_neg h]
    have hk : p y ≠ k := fun e => h ((hp y).2 e)
    unfold upto
    by_cases hlt : p y < k
    · rw [if_pos hlt, if_pos (Nat.lt_succ_of_lt hlt)]
    · rw [if_neg hlt, if_neg (by omega)]

/-- Writing slab `k` of `new` by two stores, each of a part of it, moves the boundary by one. -/
theorem put_put_upto (p : s.Idx → ℕ) (k : ℕ) (new old : s.Idx → α) (off size off' size' : Fin s.rank → ℕ)
    (w : ((a : Fin s.rank) → Fin (size a)) → α) (w' : ((a : Fin s.rank) → Fin (size' a)) → α)
    (hp : ∀ y : s.Idx, ((∀ a, off a ≤ (y a).val ∧ (y a).val < off a + size a)
      ∨ (∀ a, off' a ≤ (y a).val ∧ (y a).val < off' a + size' a)) ↔ p y = k)
    (hw : ∀ (y : s.Idx) (h : ∀ a, off a ≤ (y a).val ∧ (y a).val < off a + size a),
      w (Rect.unitLocal (s := s) (off := off) (size := size) y h) = new y)
    (hw' : ∀ (y : s.Idx) (h : ∀ a, off' a ≤ (y a).val ∧ (y a).val < off' a + size' a),
      w' (Rect.unitLocal (s := s) (off := off') (size := size') y h) = new y) :
    VecWindow.put (VecWindow.put (upto p k new old) off size w) off' size' w' = upto p (k + 1) new old := by
  funext y
  unfold VecWindow.put
  by_cases h' : ∀ a, off' a ≤ (y a).val ∧ (y a).val < off' a + size' a
  · rw [dif_pos h', hw' y h']
    exact (if_pos (by rw [(hp y).1 (.inr h')]; exact Nat.lt_succ_self k)).symm
  · rw [dif_neg h']
    by_cases h : ∀ a, off a ≤ (y a).val ∧ (y a).val < off a + size a
    · rw [dif_pos h, hw y h]
      exact (if_pos (by rw [(hp y).1 (.inl h)]; exact Nat.lt_succ_self k)).symm
    · rw [dif_neg h]
      have hk : p y ≠ k := fun e => by rcases (hp y).2 e with h1 | h1 <;> contradiction
      unfold upto
      by_cases hlt : p y < k
      · rw [if_pos hlt, if_pos (Nat.lt_succ_of_lt hlt)]
      · rw [if_neg hlt, if_neg (by omega)]

/-- A window of slab `k` reads the old values. -/
theorem window_upto_old (p : s.Idx → ℕ) (k : ℕ) (new old : s.Idx → α) (off size : Fin s.rank → ℕ)
    (inb : ∀ a, off a + size a ≤ s.size a) (h : ∀ z, ¬ p ((Rect.unit off size inb).emb z) < k) :
    VecWindow.window (upto p k new old) off size inb = VecWindow.window old off size inb := by
  funext z; exact if_neg (h z)

/-- A window of the slabs before `k` reads the new values. -/
theorem window_upto_new (p : s.Idx → ℕ) (k : ℕ) (new old : s.Idx → α) (off size : Fin s.rank → ℕ)
    (inb : ∀ a, off a + size a ≤ s.size a) (h : ∀ z, p ((Rect.unit off size inb).emb z) < k) :
    VecWindow.window (upto p k new old) off size inb = VecWindow.window new off size inb := by
  funext z; exact if_pos (h z)

end Cert.Slabs

end
-- ==== Proof.K.Region0.lean ====
/- The first kernel of the program: one product per block of rows, run by the pipeline. -/
module

public import proofs.«01_k».proof.Proof.Slabs
public import proofs.«01_k».proof.Proof.Gen.Kernel.Launch
public import proofs.«01_k».proof.Proof.Gen.Kernel.Skeleton
public import proofs.«01_k».proof.Proof.Gen.Kernel.Points

public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [BitOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! # REGION 0 of @main: custom_call 0, `cc0_xa` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x3584 := Rect.unit (s := S64x3584) ![0, 0] S64x3584.size inb_S64x3584_S64x3584_0_0
abbrev r0_1 : Rect S256x3584 := Rect.unit (s := S256x3584) ![0, 0] S256x3584.size inb_S256x3584_S256x3584_0_0
abbrev r0_2 : Rect S64x256 := Rect.unit (s := S64x256) ![0, 0] S64x256.size inb_S64x256_S64x256_0_0

/-! ## What the body leaves in each output window's buffer -/

/-- Window 2's staging buffer after the body, from the input windows' blocks: its 1 store as pieces, LAST
    FIRST. -/
def out0_2 (x0 : Vec F S64x3584 .bf16) (x1 : Vec F S256x3584 .bf16) : Vec F S64x256 .bf16 :=
  View.canon [⟨r0_2, k0_pay1 (View.ld x0 r0_0) (View.ld x1 r0_1)⟩]

/-- Its stores tile the buffer (checked by evaluation), so they cover it. -/
theorem cover0_2 (p0 : Vec F S64x256 .bf16) (y : S64x256.Idx) :
    ∃ pc ∈ ([⟨r0_2, p0⟩] : List (View.Piece (Elt F) S64x256 .bf16)), y ∈ pc.1.set :=
  View.cover_of_tiled [⟨r0_2, p0⟩] S64x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x3584 .bf16) (harg1 : arg1.IsWhole) (arg2 : Memref sig .tc .vmem S256x3584 .bf16) (harg2 : arg2.IsWhole) (arg3 : Memref sig .tc .vmem S64x256 .bf16) (harg3 : arg3.IsWhole)
    (x0 : Vec F S64x3584 .bf16) (x1 : Vec F S256x3584 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_xa i arg1 harg1 arg2 harg2 arg3 harg3) K := by
  simp only [cc0_xa_eq_skeleton]; unfold cc0_xa_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Gen

end
-- ==== Proof.K.Maps.lean ====
/- What the kernel's stores leave, as plain functions of the values they read: the cotangents of the two
   projections, the accumulator of the input gradient, the projected cotangents, and the last grid point's results. -/
module

public import proofs.«01_k».proof.Proof.Slabs
public import proofs.«01_k».proof.Proof.Gen.Kernel.Launch
public import proofs.«01_k».proof.Proof.Gen.Kernel.Skeleton
public import proofs.«01_k».proof.Proof.Gen.Kernel.Points

public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [BitOps F]

local notation "𝕄" => MT nD τ sig Unit (Elt F) ℕ (Pipeline.UD sig nD τ) ℕ

/-! ## Windows of the operands -/

theorem inb_acc (i : Fin 14) : ∀ a, (![i.val, 0, 0] : Fin 3 → ℕ) a + S1x1792x256.size a ≤ S14x1792x256.size a :=
  forall_fin3.2 ⟨by show i.val + 1 ≤ 14; omega, Nat.le_refl _, Nat.le_refl _⟩
theorem inb_z (c : Fin 28) : ∀ a, (![64 * c.val, 0, 0] : Fin 3 → ℕ) a + S64x2x256.size a ≤ S1792x2x256.size a :=
  forall_fin3.2 ⟨by show 64 * c.val + 64 ≤ 1792; omega, Nat.le_refl _, Nat.le_refl _⟩
theorem inb_dh (c : Fin 28) : ∀ a, (![64 * c.val, 0] : Fin 2 → ℕ) a + S64x256.size a ≤ S1792x256.size a :=
  forall_fin2.2 ⟨by show 64 * c.val + 64 ≤ 1792; omega, Nat.le_refl _⟩
theorem inb_w (p : Fin 2) (i : Fin 14) : ∀ a, (![p.val, 128 * i.val, 0] : Fin 3 → ℕ) a + S1x128x256.size a ≤ S2x1792x256.size a :=
  forall_fin3.2 ⟨by show p.val + 1 ≤ 2; omega, by show 128 * i.val + 128 ≤ 1792; omega, Nat.le_refl _⟩
theorem inb_s (i : Fin 14) (h p : Fin 2) : ∀ a, (![2 * i.val + h.val, p.val, 0] : Fin 3 → ℕ) a + S1x1x256.size a ≤ S28x2x256.size a :=
  forall_fin3.2 ⟨by show 2 * i.val + h.val + 1 ≤ 28; omega, by show p.val + 1 ≤ 2; omega, Nat.le_refl _⟩
theorem inb_dz (p : Fin 2) : ∀ a, (![p.val, 0, 0] : Fin 3 → ℕ) a + S1x1792x256.size a ≤ S2x1792x256.size a :=
  forall_fin3.2 ⟨by show p.val + 1 ≤ 2; omega, Nat.le_refl _, Nat.le_refl _⟩
theorem inb_g (p : Fin 2) : ∀ a, (![p.val, 0, 0] : Fin 3 → ℕ) a + S1x32x1792.size a ≤ S2x32x1792.size a :=
  forall_fin3.2 ⟨by show p.val + 1 ≤ 2; omega, Nat.le_refl _, Nat.le_refl _⟩
theorem inb_b (p : Fin 2) : ∀ a, (![p.val, 0, 0] : Fin 3 → ℕ) a + S1x32x256.size a ≤ S2x32x256.size a :=
  forall_fin3.2 ⟨by show p.val + 1 ≤ 2; omega, Nat.le_refl _, Nat.le_refl _⟩
theorem inb_xa (p : Fin 2) : ∀ a, (![32 * p.val, 0] : Fin 2 → ℕ) a + S32x1792.size a ≤ S64x1792.size a :=
  forall_fin2.2 ⟨by show 32 * p.val + 32 ≤ 64; omega, Nat.le_refl _⟩
theorem inb_at (i : Fin 14) : ∀ a, (![0, 256 * i.val] : Fin 2 → ℕ) a + S64x256.size a ≤ S64x3584.size a :=
  forall_fin2.2 ⟨Nat.le_refl _, by show 256 * i.val + 256 ≤ 3584; omega⟩
theorem inb_rows (k : Fin 7) : ∀ a, (![256 * k.val, 0] : Fin 2 → ℕ) a + S256x3584.size a ≤ S1792x3584.size a :=
  forall_fin2.2 ⟨by show 256 * k.val + 256 ≤ 1792; omega, Nat.le_refl _⟩
theorem inb_gt (k : Fin 7) : ∀ a, (![0, 0, 256 * k.val] : Fin 3 → ℕ) a + S2x32x256.size a ≤ S2x32x1792.size a :=
  forall_fin3.2 ⟨Nat.le_refl _, Nat.le_refl _, by show 256 * k.val + 256 ≤ 1792; omega⟩
theorem inb_at2 (j : Fin 14) (k : Fin 7) : ∀ a, (![j.val, 256 * k.val, 0] : Fin 3 → ℕ) a + S1x256x256.size a ≤ S14x1792x256.size a :=
  forall_fin3.2 ⟨by show j.val + 1 ≤ 14; omega, by show 256 * k.val + 256 ≤ 1792; omega, Nat.le_refl _⟩

/-- Slab `i` of the accumulator. -/
def accSlab (x : Vec F S14x1792x256 .f32) (i : Fin 14) : Vec F S1x1792x256 .f32 := VecWindow.window x ![i.val, 0, 0] S1x1792x256.size (inb_acc i)
/-- Rows `64 c …` of the interleaved projections. -/
def zRows (z : Vec F S1792x2x256 .bf16) (c : Fin 28) : Vec F S64x2x256 .bf16 := VecWindow.window z ![64 * c.val, 0, 0] S64x2x256.size (inb_z c)
/-- Rows `64 c …` of the cotangent. -/
def dhRows (x : Vec F S1792x256 .bf16) (c : Fin 28) : Vec F S64x256 .bf16 := VecWindow.window x ![64 * c.val, 0] S64x256.size (inb_dh c)
/-- The packed rows of weight `p` under output tile `i`. -/
def wBytes (w : Vec F S2x1792x256 .i8) (p : Fin 2) (i : Fin 14) : Vec F S1x128x256 .i8 := VecWindow.window w ![p.val, 128 * i.val, 0] S1x128x256.size (inb_w p i)
/-- The scales of half `h` of output tile `i` of weight `p`. -/
def wScale (s : Vec F S28x2x256 .bf16) (i : Fin 14) (h p : Fin 2) : Vec F S1x1x256 .bf16 := VecWindow.window s ![2 * i.val + h.val, p.val, 0] S1x1x256.size (inb_s i h p)
/-- Projection `p` of the cotangents. -/
def dzHalf (x : Vec F S2x1792x256 .bf16) (p : Fin 2) : Vec F S1x1792x256 .bf16 := VecWindow.window x ![p.val, 0, 0] S1x1792x256.size (inb_dz p)
/-- Projection `p` of the projected cotangents. -/
def gHalf (x : Vec F S2x32x1792 .f32) (p : Fin 2) : Vec F S1x32x1792 .f32 := VecWindow.window x ![p.val, 0, 0] S1x32x1792.size (inb_g p)
/-- Projection `p` of the low-rank factor. -/
def bHalf (x : Vec F S2x32x256 .bf16) (p : Fin 2) : Vec F S1x32x256 .bf16 := VecWindow.window x ![p.val, 0, 0] S1x32x256.size (inb_b p)
/-- The rows of `xa` of projection `p`. -/
def xaHalf (x : Vec F S64x1792 .bf16) (p : Fin 2) : Vec F S32x1792 .bf16 := VecWindow.window x ![32 * p.val, 0] S32x1792.size (inb_xa p)
/-- Columns `256 i …` of the other low-rank factor. -/
def atCols (x : Vec F S64x3584 .bf16) (i : Fin 14) : Vec F S64x256 .bf16 := VecWindow.window x ![0, 256 * i.val] S64x256.size (inb_at i)
/-- Rows `256 k …` of an activation matrix. -/
def tileRows (x : Vec F S1792x3584 .bf16) (k : Fin 7) : Vec F S256x3584 .bf16 := VecWindow.window x ![256 * k.val, 0] S256x3584.size (inb_rows k)
/-- Columns `256 k …` of the projected cotangents. -/
def gCols (x : Vec F S2x32x1792 .f32) (k : Fin 7) : Vec F S2x32x256 .f32 := VecWindow.window x ![0, 0, 256 * k.val] S2x32x256.size (inb_gt k)
/-- Rows `256 k …` of slab `j` of the accumulator. -/
def accTile (x : Vec F S14x1792x256 .f32) (j : Fin 14) (k : Fin 7) : Vec F S1x256x256 .f32 := VecWindow.window x ![j.val, 256 * k.val, 0] S1x256x256.size (inb_at2 j k)

/-! ## What one grid point computes -/

theorem row_div {r : ℕ} (h : r < 1792) : r / 64 < 28 := by omega
theorem row_mod (r : ℕ) : r % 64 < 64 := Nat.mod_lt _ (by decide)

/-- The cotangents of the two projections: projection 1 from the gate alone, projection 0 through the gate's derivative. -/
def dzOf (dh : Vec F S1792x256 .bf16) (z : Vec F S1792x2x256 .bf16) : Vec F S2x1792x256 .bf16 := fun y =>
  if (y 0).val = 1 then k1_pay36 (zRows z ⟨(y 1).val / 64, row_div (y 1).isLt⟩) (dhRows dh ⟨(y 1).val / 64, row_div (y 1).isLt⟩) (ix3 0 ⟨(y 1).val % 64, row_mod _⟩ (y 2))
  else k1_pay37 (zRows z ⟨(y 1).val / 64, row_div (y 1).isLt⟩) (dhRows dh ⟨(y 1).val / 64, row_div (y 1).isLt⟩) (ix3 0 ⟨(y 1).val % 64, row_mod _⟩ (y 2))

/-- Slab `i` of the accumulator after a point adds the two products with the unpacked weights. -/
def accPay (w : Vec F S2x1792x256 .i8) (s : Vec F S28x2x256 .bf16) (dz : Vec F S2x1792x256 .bf16) (i : Fin 14) (a : Vec F S1x1792x256 .f32) : Vec F S1x1792x256 .f32 :=
  k1_pay38 (k1_pay12 k1_pay10 (k1_pay11 (wBytes w 0 i) (wScale s i 0 0) (wScale s i 1 0)) (dzHalf dz 0))
    (k1_pay13 (wBytes w 1 i) (wScale s i 0 1) (wScale s i 1 1)) (k1_pay14 (dzHalf dz 1)) a

/-- The accumulator after a point. -/
def accNext (w : Vec F S2x1792x256 .i8) (s : Vec F S28x2x256 .bf16) (dz : Vec F S2x1792x256 .bf16) (acc : Vec F S14x1792x256 .f32) : Vec F S14x1792x256 .f32 := fun y =>
  accPay w s dz (y 0) (accSlab acc (y 0)) (ix3 0 (y 1) (y 2))

/-- The accumulator before the first point. -/
def accZero : Vec F S14x1792x256 .f32 := fun y => k1_pay31 (ix3 0 (y 1) (y 2))

/-- The projected cotangents after a point. -/
def gNext (b : Vec F S2x32x256 .bf16) (dz : Vec F S2x1792x256 .bf16) (g : Vec F S2x32x1792 .f32) : Vec F S2x32x1792 .f32 := fun y =>
  if (y 0).val = 0 then k1_pay39 (gHalf g 0) (bHalf b 0) (dzHalf dz 0) (ix3 0 (y 1) (y 2))
  else k1_pay2 (gHalf g 1) (bHalf b 1) (dzHalf dz 1) (ix3 0 (y 1) (y 2))

/-- A point's block of the gradient of the low-rank factor. -/
def dbOf (xa : Vec F S64x1792 .bf16) (dz : Vec F S2x1792x256 .bf16) : Vec F S2x32x256 .f32 := fun y =>
  if (y 0).val = 0 then k1_pay1 (k1_pay40 (xaHalf xa 0) (dzHalf dz 0)) (ix3 0 (y 1) (y 2))
  else k1_pay3 (xaHalf xa 1) (dzHalf dz 1) (ix3 0 (y 1) (y 2))

/-! ## What the last point adds -/

/-- The accumulator after the low-rank term is added. -/
def accLast (g : Vec F S2x32x1792 .f32) (am : Vec F S64x3584 .bf16) (acc : Vec F S14x1792x256 .f32) : Vec F S14x1792x256 .f32 := fun y =>
  k1_pay5 g (accSlab acc (y 0)) (atCols am (y 0)) (ix3 0 (y 1) (y 2))

/-- The gradient of the other low-rank factor after the first `k` row tiles. -/
def daUpto (g : Vec F S2x32x1792 .f32) (x : Vec F S1792x3584 .bf16) : ℕ → Vec F S64x3584 .f32
  | 0 => k1_pay6
  | k + 1 => if h : k < 7 then k1_pay15 (gCols g ⟨k, h⟩) (daUpto g x k) (tileRows x ⟨k, h⟩) else daUpto g x k

/-- The gradient of the input: the accumulator's slabs side by side. -/
def dxOf (acc : Vec F S14x1792x256 .f32) : Vec F S1792x3584 .bf16 := fun y =>
  k1_pay19 (accTile acc ⟨(y 1).val / 256, by have : (y 1).val < 3584 := (y 1).isLt; omega⟩ ⟨(y 0).val / 256, by have : (y 0).val < 1792 := (y 0).isLt; omega⟩)
    (ix2 ⟨(y 0).val % 256, Nat.mod_lt _ (by decide)⟩ ⟨(y 1).val % 256, Nat.mod_lt _ (by decide)⟩)

end Cert.Kernel.Gen

end
-- ==== Proof.K.Trips.lean ====
/- One trip of each of the kernel's counted loops, on buffers held at named values. -/
module

public import proofs.«01_k».proof.Proof.Slabs
public import proofs.«01_k».proof.Proof.Gen.Kernel.Launch
public import proofs.«01_k».proof.Proof.Gen.Kernel.Skeleton
public import proofs.«01_k».proof.Proof.Gen.Kernel.Points
public import proofs.«01_k».proof.Proof.K.Maps
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [BitOps F]

local notation "𝕄" => MT nD τ sig Unit (Elt F) ℕ (Pipeline.UD sig nD τ) ℕ

variable (arg1 : Memref sig .tc .vmem S1792x256 .bf16) (harg1 : arg1.IsWhole) (arg2 : Memref sig .tc .vmem S1792x2x256 .bf16) (harg2 : arg2.IsWhole)
  (arg3 : Memref sig .tc .vmem S2x1792x256 .i8) (harg3 : arg3.IsWhole) (arg4 : Memref sig .tc .vmem S28x2x256 .bf16) (harg4 : arg4.IsWhole)
  (arg5 : Memref sig .tc .vmem S2x32x256 .bf16) (harg5 : arg5.IsWhole) (arg6 : Memref sig .tc .vmem S64x1792 .bf16) (harg6 : arg6.IsWhole)
  (arg7 : Memref sig .tc .vmem S64x3584 .bf16) (harg7 : arg7.IsWhole) (arg8 : Memref sig .tc .hbm S1792x3584 .bf16) (harg8 : arg8.IsWhole)
  (arg9 : Memref sig .tc .hbm S1792x3584 .bf16) (harg9 : arg9.IsWhole) (arg10 : Memref sig .tc .vmem S64x3584 .f32) (harg10 : arg10.IsWhole)
  (arg11 : Memref sig .tc .vmem S2x32x256 .f32) (harg11 : arg11.IsWhole) (arg12 : Memref sig .tc .vmem S64x1792 .bf16) (harg12 : arg12.IsWhole)
  (arg13 : Memref sig .tc .vmem S2x1792x256 .bf16) (harg13 : arg13.IsWhole) (arg14 : Memref sig .tc .vmem S14x1792x256 .f32) (harg14 : arg14.IsWhole)
  (arg15 : Memref sig .tc .vmem S2x32x1792 .f32) (harg15 : arg15.IsWhole) (arg16 : Memref sig .tc .vmem S256x3584 .bf16) (harg16 : arg16.IsWhole)
  (arg17 : Memref sig .tc .vmem S256x3584 .bf16) (harg17 : arg17.IsWhole) (arg18 : DmaSems sig S_)

variable (c : Dev nD) (𝒱 : Variants) (bd : Option 𝒱.V) (E : Set ℕ) (i : grid1.Coords)

/-- A whole memref at some values. -/
abbrev at_ {sp : Space} {s : Shape} {e : EltTy} (a : Memref sig .tc sp s e) (h : a.IsWhole) (x : s.Idx → Elt F e) : sProp 𝕄 :=
  a.view.loc (c : Thread nD τ) ↦[a.view.set]{fullShare} h.unread x

/-- A whole memref at contents that read the values is at the values. -/
theorem at_of {sp : Space} {s : Shape} {e : EltTy} (a : Memref sig .tc sp s e) (h : a.IsWhole) (x : s.Idx → Elt F e) :
    iprop(∃ f, (a.view.loc (c : Thread nD τ) ↦[a.view.set]{fullShare} f) ∗ ⌜a.view.read (Elt F) f = x⌝) ⊢ at_ (F := F) c a h x := by
  iintro ⟨%f, H, %e⟩
  rw [h.eq_unread e]
  iexact H

/-- A load of a whole memref at some values reads a window of the values. -/
theorem rd {sp : Space} {s : Shape} {e : EltTy} {a : Memref sig .tc sp s e} (h : a.IsWhole) (x : s.Idx → Elt F e) {off off' size : Fin s.rank → ℕ}
    (inb : ∀ a, off a + size a ≤ s.size a) (ho : off = off') (inb' : ∀ a, off' a + size a ≤ s.size a) :
    View.readAt (Elt F) a.view (Rect.unit off size inb).toLoadRect (h.unread x) = VecWindow.window x off' size inb' := by
  rw [View.readAt_unit _ _ _ ho inb', h.read_unread]

/-- A memref read after its slice is overwritten. -/
theorem read_slice_store {sp : Space} {s : Shape} {e : EltTy} (a : Memref sig .tc sp s e) {off off' size : Fin s.rank → ℕ}
    (inb : ∀ a, off a + size a ≤ s.size a) (hs : ∀ b, (Rect.unit off size inb).stride b = 1) (ho : off = off') (f : a.view.ty.Contents (Elt F))
    (w : (Rect.unit off size inb).shape.Idx → Elt F e) :
    a.view.read (Elt F) (View.write (Elt F) (a.slice (Rect.unit off size inb) hs).view f w Finset.univ) = VecWindow.put (a.view.read (Elt F) f) off' size w := by
  refine Eq.trans ?_ ((View.read_writes_cons_put a.view f inb w [] ho).trans ?_)
  · rfl
  · rw [View.writes_nil]

/-- The slab of a position of the accumulator. -/
def slabOf (y : S14x1792x256.Idx) : ℕ := (y 0).val

theorem slab_iff (k : ℕ) (y : S14x1792x256.Idx) :
    (∀ a, (![k, 0, 0] : Fin 3 → ℕ) a ≤ (y a).val ∧ (y a).val < (![k, 0, 0] : Fin 3 → ℕ) a + S1x1792x256.size a) ↔ slabOf y = k := by
  have h1 : (y 1).val < 1792 := (y 1).isLt
  have h2 : (y 2).val < 256 := (y 2).isLt
  constructor
  · intro h
    have h0 : k ≤ (y 0).val ∧ (y 0).val < k + 1 := h 0
    show (y 0).val = k
    omega
  · intro h
    have h0 : (y 0).val = k := h
    exact forall_fin3.2 ⟨⟨by show k ≤ (y 0).val; omega, by show (y 0).val < k + 1; omega⟩,
      ⟨Nat.zero_le _, by show (y 1).val < 0 + 1792; omega⟩, ⟨Nat.zero_le _, by show (y 2).val < 0 + 256; omega⟩⟩

/-- A position's place within slab `k`. -/
theorem slab_local (k : ℕ) (y : S14x1792x256.Idx)
    (h : ∀ a, (![k, 0, 0] : Fin 3 → ℕ) a ≤ (y a).val ∧ (y a).val < (![k, 0, 0] : Fin 3 → ℕ) a + S1x1792x256.size a) :
    @Eq S1x1792x256.Idx (Rect.unitLocal (s := S14x1792x256) (off := ![k, 0, 0]) (size := S1x1792x256.size) y h) (ix3 (0 : Fin 1) (y 1 : Fin 1792) (y 2 : Fin 256)) := by
  have h0 : k ≤ (y 0).val ∧ (y 0).val < k + 1 := h 0
  funext a
  match a with
  | 0 => exact Fin.ext (by show (y 0).val - k = 0; omega)
  | 1 => rfl
  | 2 => rfl

/-- A slab not yet reached reads the old values. -/
theorem slab_old (k : Fin 14) (new old : Vec F S14x1792x256 .f32) : accSlab (upto slabOf k.val new old) k = accSlab old k :=
  window_upto_old _ _ _ _ _ _ _ (fun z hz => by
    have e : slabOf ((Rect.unit (s := S14x1792x256) ![k.val, 0, 0] S1x1792x256.size (inb_acc k)).emb z) = k.val + 1 * (z 0).val := rfl
    omega)

/-! ## Clearing the accumulator -/

/-- Before trip `k` of the first loop the slabs before `k` are zero. -/
def inv1 (X : Vec F S14x1792x256 .f32) (k : ℕ) (_ : Unit) : sProp 𝕄 :=
  at_ c arg14 harg14 (upto slabOf k accZero X)

/-- One trip of the first loop clears a slab. -/
theorem trip1 (h1 : k1_cond1 i = 1#1) (X : Vec F S14x1792x256 .f32) (k : Fin k1_t1_loop.trips) (u : Unit) :
    inv1 arg14 harg14 c X k.val u
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h1 k u)
          (inv1 arg14 harg14 c X (k.val + 1)) := by
  have hk : k.val < 14 := Nat.lt_of_lt_of_le k.isLt k1_t1_abs.2.1
  unfold k1_t1_body inv1
  iintro H14
  sl_exec
  sl_step
  iapply at_of
  iexists _
  isplitl [H14]; · iexact H14
  ipureintro
  rw [View.read_writes_cons_put _ _ _ _ _ (k1_off1_eq k), View.writes_nil, harg14.read_unread]
  exact put_upto _ _ _ _ _ _ _ (slab_iff _) (fun y h => congrArg k1_pay31 (slab_local _ y h))

/-! ## The cotangents of the projections -/

/-- The row chunk of a position of the cotangents. -/
def chunkOf (y : S2x1792x256.Idx) : ℕ := (y 1).val / 64

theorem chunk_mem (p : ℕ) (k : ℕ) (y : S2x1792x256.Idx) :
    (∀ a, (![p, 64 * k, 0] : Fin 3 → ℕ) a ≤ (y a).val ∧ (y a).val < (![p, 64 * k, 0] : Fin 3 → ℕ) a + S1x64x256.size a) ↔ (y 0).val = p ∧ chunkOf y = k := by
  have h2 : (y 2).val < 256 := (y 2).isLt
  constructor
  · intro h
    have h0 : p ≤ (y 0).val ∧ (y 0).val < p + 1 := h 0
    have h1 : 64 * k ≤ (y 1).val ∧ (y 1).val < 64 * k + 64 := h 1
    exact ⟨by omega, by show (y 1).val / 64 = k; omega⟩
  · rintro ⟨h0, h1⟩
    have h1' : (y 1).val / 64 = k := h1
    exact forall_fin3.2 ⟨⟨by show p ≤ (y 0).val; omega, by show (y 0).val < p + 1; omega⟩,
      ⟨by show 64 * k ≤ (y 1).val; omega, by show (y 1).val < 64 * k + 64; omega⟩, ⟨Nat.zero_le _, by show (y 2).val < 0 + 256; omega⟩⟩

/-- A position's place within row chunk `k` of projection `p`. -/
theorem chunk_local (p k : ℕ) (y : S2x1792x256.Idx)
    (h : ∀ a, (![p, 64 * k, 0] : Fin 3 → ℕ) a ≤ (y a).val ∧ (y a).val < (![p, 64 * k, 0] : Fin 3 → ℕ) a + S1x64x256.size a) :
    @Eq S1x64x256.Idx (Rect.unitLocal (s := S2x1792x256) (off := ![p, 64 * k, 0]) (size := S1x64x256.size) y h) (ix3 (0 : Fin 1) (⟨(y 1).val % 64, row_mod _⟩ : Fin 64) (y 2 : Fin 256)) := by
  have h0 : p ≤ (y 0).val ∧ (y 0).val < p + 1 := h 0
  have h1 : 64 * k ≤ (y 1).val ∧ (y 1).val < 64 * k + 64 := h 1
  funext a
  match a with
  | 0 => exact Fin.ext (by show (y 0).val - p = 0; omega)
  | 1 => exact Fin.ext (by show (y 1).val - 64 * k = (y 1).val % 64; omega)
  | 2 => rfl

/-- Before trip `k` of the second loop the row chunks before `k` hold the cotangents. -/
def inv2 (DH : Vec F S1792x256 .bf16) (Z : Vec F S1792x2x256 .bf16) (X : Vec F S2x1792x256 .bf16) (k : ℕ) (_ : Unit) : sProp 𝕄 :=
  iprop(at_ c arg1 harg1 DH ∗ at_ c arg2 harg2 Z ∗ at_ c arg13 harg13 (upto chunkOf k (dzOf DH Z) X))

/-- One trip of the second loop fills a row chunk of both projections' cotangents. -/
theorem trip2 (DH : Vec F S1792x256 .bf16) (Z : Vec F S1792x2x256 .bf16) (X : Vec F S2x1792x256 .bf16) (k : Fin k1_t2_loop.trips) (u : Unit) :
    inv2 arg1 harg1 arg2 harg2 arg13 harg13 c DH Z X k.val u
      ⊢ wp frame (wpE (defs₀ (F := F)) 𝒱 (c : Thread nD τ) bd) E (k1_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k u)
          (inv2 arg1 harg1 arg2 harg2 arg13 harg13 c DH Z X (k.val + 1)) := by
  have hk : k.val < 28 := Nat.lt_of_lt_of_le k.isLt k1_t2_abs.2.1
  unfold k1_t2_body inv2
  iintro ⟨H1, H2, H13⟩
  sl_exec
  sl_step
  isplitl [H1]; · iexact H1
  isplitl [H2]; · iexact H2
  iapply at_of
  iexists _
  isplitl [H13]; · iexact H13
  ipureintro
  rw [View.read_writes_cons_put _ _ _ _ _ (k1_off5_eq k), View.read_writes_cons_put _ _ _ _ _ (k1_off4_eq k), View.writes_nil, harg13.read_unread]
  rw [rd harg1 _ _ (k1_off3_eq k) (inb_dh ⟨k.val, hk⟩), rd harg2 _ _ (k1_off2_eq k) (inb_z ⟨k.val, hk⟩)]
  exact put_put_upto _ _ _ _ _ _ _ _ _ _
    (fun y => by
      have h0 : (y 0).val < 2 := (y 0).isLt
      rw [chunk_mem, chunk_mem]
      constructor
      · rintro (h | h) <;> exact h.2
      · intro h
        by_cases hp : (y 0).val = 1
        · exact .inl ⟨hp, h⟩
        · exact .inr ⟨by omega, h⟩)
    (fun y h => by
      have hm := (chunk_mem 1 k.val y).1 h
      have hc : (y 1).val / 64 = k.val := hm.2
      unfold dzOf
      rw [if_pos hm.1]
      rw [show (⟨(y 1).val / 64, row_div (y 1).isLt⟩ : Fin 28) = ⟨k.val, hk⟩ from Fin.ext hc]
      exact congrArg (k1_pay36 (zRows Z ⟨k.val, hk⟩) (dhRows DH ⟨k.val, hk⟩)) (chunk_local _ _ y h))
    (fun y h => by
      have hm := (chunk_mem 0 k.val y).1 h
      have hc : (y 1).val / 64 = k.val := hm.2
      unfold dzOf
      rw [if_neg (by omega)]
      rw [show (⟨(y 1).val / 64, row_div (y 1).isLt⟩ : Fin 28) = ⟨k.val, hk⟩ from Fin.ext hc]
      exact congrArg (k1_pay37 (zRows Z ⟨k.val, hk⟩) (dhRows DH ⟨k.val, hk⟩)) (chunk_local _ _ y h))

/-! ## Accumulating the input gradient -/

/-- Before trip `k` of the third loop the slabs before `k` hold the sums with this point's products. -/
def inv3 (W : Vec F S2x1792x256 .i8) (S : Vec F S28x2x256 .bf16) (DZ : Vec F S2x1792x256 .bf16) (X : Vec F S14x1792x256 .f32) (k : ℕ) (_ : Unit) : sProp 𝕄 :=
  iprop(at_ c arg3 harg3 W ∗ at_ c arg4 harg4 S ∗ at_ c arg13 harg13 DZ ∗ at_ c arg14 harg14 (upto slabOf k (accNext W S DZ X) X))

/-- One trip of the third loop adds this point's products to a slab. -/
theorem trip3 (W : Vec F S2x1792x256 .i8) (S : Vec F S28x2x256 .bf16) (DZ : Vec F S2x1792x256 .bf16) (X : Vec F S14x1792x256 .f32) (k : Fin k1_t3_loop.trips) (u : Unit) :
    inv3 arg3 harg3 arg4 harg4 arg13 harg13 arg14 harg14 c W S DZ X k.val u
      ⊢ wp frame (wpE (defs₀ (F := F)) 𝒱 (c : Thread nD τ) bd) E (k1_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k u)
          (inv3 arg3 harg3 arg4 harg4 arg13 harg13 arg14 harg14 c W S DZ X (k.val + 1)) := by
  have hk : k.val < 14 := Nat.lt_of_lt_of_le k.isLt k1_t3_abs.2.1
  unfold k1_t3_body inv3
  iintro ⟨H3, H4, H13, H14⟩
  sl_exec
  sl_step
  isplitl [H3]; · iexact H3
  isplitl [H4]; · iexact H4
  isplitl [H13]; · iexact H13
  iapply at_of
  iexists _
  isplitl [H14]; · iexact H14
  ipureintro
  rw [View.read_writes_cons_put _ _ _ _ _ (k1_off10_eq k), View.writes_nil, harg14.read_unread]
  have e0 : trip3.sl.r_1 arg3 harg3 arg4 harg4 arg13 harg13 W S DZ k
      = k1_pay12 k1_pay10 (k1_pay11 (wBytes W 0 ⟨k.val, hk⟩) (wScale S ⟨k.val, hk⟩ 0 0) (wScale S ⟨k.val, hk⟩ 1 0)) (dzHalf DZ 0) := by
    unfold trip3.sl.r_1 trip3.sl.r
    rw [rd harg3 _ _ (k1_off6_eq k) (inb_w 0 ⟨k.val, hk⟩), rd harg4 _ _ (show k1_off7 k 0#32 = _ from k1_off7_eq k 0) (inb_s ⟨k.val, hk⟩ 0 0),
      rd harg4 _ _ (show k1_off7 k 1#32 = _ from k1_off7_eq k 1) (inb_s ⟨k.val, hk⟩ 1 0), rd harg13 DZ inb_S2x1792x256_S1x1792x256_0_0_0 rfl (inb_dz 0)]
    rfl
  have e1 : trip3.sl.r_2 arg3 harg3 arg4 harg4 W S k
      = k1_pay13 (wBytes W 1 ⟨k.val, hk⟩) (wScale S ⟨k.val, hk⟩ 0 1) (wScale S ⟨k.val, hk⟩ 1 1) := by
    unfold trip3.sl.r_2
    rw [rd harg3 _ _ (k1_off8_eq k) (inb_w 1 ⟨k.val, hk⟩), rd harg4 _ _ (show k1_off9 k 0#32 = _ from k1_off9_eq k 0) (inb_s ⟨k.val, hk⟩ 0 1),
      rd harg4 _ _ (show k1_off9 k 1#32 = _ from k1_off9_eq k 1) (inb_s ⟨k.val, hk⟩ 1 1)]
    rfl
  have e2 : trip3.sl.r_3 arg13 harg13 DZ = k1_pay14 (dzHalf DZ 1) := by
    unfold trip3.sl.r_3
    rw [rd harg13 DZ inb_S2x1792x256_S1x1792x256_1_0_0 rfl (inb_dz 1)]
    rfl
  rw [e0, e1, e2, rd harg14 _ _ (k1_off10_eq k) (inb_acc ⟨k.val, hk⟩)]
  refine put_upto _ _ _ _ _ _ _ (slab_iff _) (fun y h => ?_)
  have hy : (y 0 : Fin 14) = ⟨k.val, hk⟩ := Fin.ext ((slab_iff k.val y).1 h)
  rw [slab_local _ y h]
  unfold accNext
  rw [hy]
  exact congrArg (fun a => accPay W S DZ ⟨k.val, hk⟩ a (ix3 0 (y 1) (y 2))) (slab_old ⟨k.val, hk⟩ _ _)

/-! ## The last point -/

/-- Before trip `k` of the fourth loop the slabs before `k` hold the sums with the low-rank term. -/
def inv4 (G : Vec F S2x32x1792 .f32) (A : Vec F S64x3584 .bf16) (X : Vec F S14x1792x256 .f32) (k : ℕ) (_ : Unit) : sProp 𝕄 :=
  iprop(at_ c arg7 harg7 A ∗ at_ c arg14 harg14 (upto slabOf k (accLast G A X) X))

/-- One trip of the fourth loop adds the low-rank term to a slab. -/
theorem trip4 (h2 : k1_cond2 i = 1#1) (G : Vec F S2x32x1792 .f32) (A : Vec F S64x3584 .bf16) (X : Vec F S14x1792x256 .f32) (k : Fin k1_t4_loop.trips) (u : Unit) :
    inv4 arg7 harg7 arg14 harg14 c G A X k.val u
      ⊢ wp frame (wpE (defs₀ (F := F)) 𝒱 (c : Thread nD τ) bd) E (k1_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h2 G k u)
          (inv4 arg7 harg7 arg14 harg14 c G A X (k.val + 1)) := by
  have hk : k.val < 14 := Nat.lt_of_lt_of_le k.isLt k1_t4_abs.2.1
  unfold k1_t4_body inv4
  iintro ⟨H7, H14⟩
  sl_exec
  sl_step
  isplitl [H7]; · iexact H7
  iapply at_of
  iexists _
  isplitl [H14]; · iexact H14
  ipureintro
  rw [View.read_writes_cons_put _ _ _ _ _ (k1_off11_eq k), View.writes_nil, harg14.read_unread]
  rw [rd harg14 _ _ (k1_off11_eq k) (inb_acc ⟨k.val, hk⟩), rd harg7 _ _ (k1_off12_eq k) (inb_at ⟨k.val, hk⟩)]
  refine put_upto _ _ _ _ _ _ _ (slab_iff _) (fun y h => ?_)
  have hy : (y 0 : Fin 14) = ⟨k.val, hk⟩ := Fin.ext ((slab_iff k.val y).1 h)
  rw [slab_local _ y h]
  unfold accLast
  rw [hy]
  exact congrArg (fun a => k1_pay5 G a (atCols A ⟨k.val, hk⟩) (ix3 0 (y 1) (y 2))) (slab_old ⟨k.val, hk⟩ _ _)

/-- A position inside a rectangle is the rectangle's index at its own place. -/
theorem emb_local {s : Shape} (off size : Fin s.rank → ℕ) (inb : ∀ a, off a + size a ≤ s.size a) (y : s.Idx)
    (h : ∀ a, off a ≤ (y a).val ∧ (y a).val < off a + size a) :
    (Rect.unit off size inb).emb (Rect.unitLocal (s := s) y h) = y :=
  funext fun a => Fin.ext (by
    show off a + 1 * ((y a).val - off a) = (y a).val
    have := h a
    omega)

/-- The row tile of a position of the input gradient. -/
def tileOf (y : S1792x3584.Idx) : ℕ := (y 0).val / 256

/-- The column tile of a position of a row tile. -/
def colOf (y : S256x3584.Idx) : ℕ := (y 1).val / 256

/-- Writing column tile `j` moves the boundary of the written tiles. -/
theorem tile_put (A : Vec F S14x1792x256 .f32) (k : Fin 7) (x : Vec F S256x3584 .bf16) (j : ℕ) (hj : j < 14) {off : Fin 2 → ℕ} {w : Vec F S256x256 .bf16}
    (ho : off = ![0, 256 * j]) (hw : w = k1_pay19 (accTile A ⟨j, hj⟩ k)) :
    VecWindow.put (s := S256x3584) (upto colOf j (tileRows (dxOf A) k) x) off S256x256.size w = upto colOf (j + 1) (tileRows (dxOf A) k) x := by
  subst ho hw
  refine put_upto _ _ _ _ _ _ _ (fun y => ?_) (fun y h => ?_)
  · have h0 : (y 0).val < 256 := (y 0).isLt
    constructor
    · intro h
      have h1 : 256 * j ≤ (y 1).val ∧ (y 1).val < 256 * j + 256 := h 1
      show (y 1).val / 256 = j
      omega
    · intro h
      have h1 : (y 1).val / 256 = j := h
      exact forall_fin2.2 ⟨⟨Nat.zero_le _, by show (y 0).val < 0 + 256; omega⟩,
        ⟨by show 256 * j ≤ (y 1).val; omega, by show (y 1).val < 256 * j + 256; omega⟩⟩
  · have h0 : (y 0).val < 256 := (y 0).isLt
    have h1 : 256 * j ≤ (y 1).val ∧ (y 1).val < 256 * j + 256 := h 1
    have hr : ((Rect.unit (s := S1792x3584) ![256 * k.val, 0] S256x3584.size (inb_rows k)).emb y 0).val = 256 * k.val + 1 * (y 0).val := rfl
    have hc : ((Rect.unit (s := S1792x3584) ![256 * k.val, 0] S256x3584.size (inb_rows k)).emb y 1).val = 0 + 1 * (y 1).val := rfl
    show _ = dxOf A ((Rect.unit (s := S1792x3584) ![256 * k.val, 0] S256x3584.size (inb_rows k)).emb y)
    unfold dxOf
    refine congrArg₂ (fun (a : Vec F S1x256x256 .f32) (b : S256x256.Idx) => k1_pay19 a b) ?_ ?_
    · refine congrArg₂ (fun a b => accTile A a b) ?_ ?_
      · exact Fin.ext (by show j = _ / 256; rw [hc]; omega)
      · exact Fin.ext (by show k.val = _ / 256; rw [hr]; omega)
    · funext a
      match a with
      | 0 => exact Fin.ext (by show (y 0).val - 0 = _ % 256; rw [hr]; omega)
      | 1 => exact Fin.ext (by show (y 1).val - 256 * j = _ % 256; rw [hc]; omega)

/-- Before trip `k` of the fifth loop the row tiles before `k` of the input gradient are written, and the gradient of
    the low-rank factor sums the tiles before `k`. -/
def inv5 (G : Vec F S2x32x1792 .f32) (A : Vec F S14x1792x256 .f32) (X DX : Vec F S1792x3584 .bf16) (k : ℕ) (_ : Unit) : sProp 𝕄 :=
  iprop(at_ c arg14 harg14 A ∗ at_ c arg15 harg15 G ∗ (arg8.view.loc (c : Thread nD τ) ↦{fullShare} harg8.unread X)
    ∗ at_ c arg10 harg10 (daUpto G X k) ∗ (∃ x, at_ c arg17 harg17 x) ∗ semVal ((c : Thread nD τ), SemLoc.dma arg18.sem) 0 ∗ (∃ x, at_ c arg16 harg16 x)
    ∗ (arg9.view.loc (c : Thread nD τ) ↦{fullShare} harg9.unread (upto tileOf k (dxOf A) DX)) ∗ (∃ W, owes (c : Thread nD τ) 0 W))

/-- One trip of the fifth loop. -/
theorem trip5 (h2 : k1_cond2 i = 1#1) (G : Vec F S2x32x1792 .f32) (A : Vec F S14x1792x256 .f32) (X DX : Vec F S1792x3584 .bf16) (k : Fin k1_t5_loop.trips) (u : Unit) :
    inv5 arg8 harg8 arg9 harg9 arg10 harg10 arg14 harg14 arg15 harg15 arg16 harg16 arg17 harg17 arg18 c G A X DX k.val u
      ⊢ wp frame (wpE (defs₀ (F := F)) 𝒱 (c : Thread nD τ) bd) Set.univ (k1_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h2 k u)
          (inv5 arg8 harg8 arg9 harg9 arg10 harg10 arg14 harg14 arg15 harg15 arg16 harg16 arg17 harg17 arg18 c G A X DX (k.val + 1)) := by
  have hk : k.val < 7 := Nat.lt_of_lt_of_le k.isLt k1_t5_abs.2.1
  unfold k1_t5_body inv5
  iintro ⟨H14, H15, H8, H10, ⟨%x17, H17⟩, HS, ⟨%x16, H16⟩, H9, ⟨%W, HO⟩⟩
  sl_exec
  sl_step
  isplitl [H14]; · iexact H14
  isplitl [H15]; · iexact H15
  isplitl [H8]; · iexact H8
  isplitl [H10]
  · iapply at_of
    iexists _
    isplitl [H10]; · iexact H10
    ipureintro
    have e0 : trip5.sl.v73 arg8 harg8 arg16 i h2 X k = tileRows X ⟨k.val, hk⟩ := by
      unfold trip5.sl.v73
      unfold View.readCov
      rw [View.readAt_full, View.read_writes_whole]
      exact rd harg8 _ _ (k1_off13_eq k) (inb_rows ⟨k.val, hk⟩)
    rw [View.read_writes_full, e0, View.readAt_full, harg10.read_unread, rd harg15 _ _ (k1_off14_eq k) (inb_gt ⟨k.val, hk⟩)]
    rw [daUpto, dif_pos hk]
    rfl
  isplitl [H17]
  · iexists _
    iapply at_of
    iexists _
    isplitl [H17]; · iexact H17
    ipureintro
    rfl
  isplitl [HS]; · iexact HS
  isplitl [H16]
  · iexists _
    iapply at_of
    iexists _
    isplitl [H16]; · iexact H16
    ipureintro
    rfl
  isplitl [H9]
  · have e : trip5.sl.H9_w1 arg9 harg9 arg14 harg14 arg17 harg17 i h2 A DX k x17 = harg9.unread (upto tileOf (k.val + 1) (dxOf A) DX) := by
      refine harg9.eq_unread ?_
      unfold trip5.sl.H9_w1
      refine (read_slice_store arg9 _ _ (k1_off13_eq k) _ _).trans ?_
      rw [harg9.read_unread]
      have e1 : trip5.sl.dma47 arg14 harg14 arg17 harg17 i h2 A k x17 = tileRows (dxOf A) ⟨k.val, hk⟩ := by
        unfold trip5.sl.dma47 trip5.sl.H17_14 trip5.sl.r trip5.sl.r_1 trip5.sl.r_2
        rw [rd harg14 _ _ (k1_off15_eq k) (inb_at2 0 ⟨k.val, hk⟩), rd harg14 _ _ (k1_off16_eq k) (inb_at2 1 ⟨k.val, hk⟩),
          rd harg14 _ _ (k1_off17_eq k) (inb_at2 2 ⟨k.val, hk⟩), rd harg14 _ _ (k1_off18_eq k) (inb_at2 3 ⟨k.val, hk⟩),
          rd harg14 _ _ (k1_off19_eq k) (inb_at2 4 ⟨k.val, hk⟩), rd harg14 _ _ (k1_off20_eq k) (inb_at2 5 ⟨k.val, hk⟩),
          rd harg14 _ _ (k1_off21_eq k) (inb_at2 6 ⟨k.val, hk⟩), rd harg14 _ _ (k1_off22_eq k) (inb_at2 7 ⟨k.val, hk⟩),
          rd harg14 _ _ (k1_off23_eq k) (inb_at2 8 ⟨k.val, hk⟩), rd harg14 _ _ (k1_off24_eq k) (inb_at2 9 ⟨k.val, hk⟩),
          rd harg14 _ _ (k1_off25_eq k) (inb_at2 10 ⟨k.val, hk⟩), rd harg14 _ _ (k1_off26_eq k) (inb_at2 11 ⟨k.val, hk⟩),
          rd harg14 _ _ (k1_off27_eq k) (inb_at2 12 ⟨k.val, hk⟩), rd harg14 _ _ (k1_off28_eq k) (inb_at2 13 ⟨k.val, hk⟩)]
        show arg17.view.read (Elt F) (arg17.view.writes (Elt F) _ _) = _
        simp only [View.read_writes_cons_put _ _ _ _ _ rfl, View.writes_nil, harg17.read_unread]
        rw [← upto_zero colOf (tileRows (dxOf A) ⟨k.val, hk⟩) x17]
        rw [tile_put A ⟨k.val, hk⟩ x17 0 (by decide), tile_put A ⟨k.val, hk⟩ x17 1 (by decide), tile_put A ⟨k.val, hk⟩ x17 2 (by decide),
          tile_put A ⟨k.val, hk⟩ x17 3 (by decide), tile_put A ⟨k.val, hk⟩ x17 4 (by decide), tile_put A ⟨k.val, hk⟩ x17 5 (by decide),
          tile_put A ⟨k.val, hk⟩ x17 6 (by decide), tile_put A ⟨k.val, hk⟩ x17 7 (by decide), tile_put A ⟨k.val, hk⟩ x17 8 (by decide),
          tile_put A ⟨k.val, hk⟩ x17 9 (by decide), tile_put A ⟨k.val, hk⟩ x17 10 (by decide), tile_put A ⟨k.val, hk⟩ x17 11 (by decide),
          tile_put A ⟨k.val, hk⟩ x17 12 (by decide), tile_put A ⟨k.val, hk⟩ x17 13 (by decide)]
        · exact upto_all _ _ _ _ (fun y => by
            have : (y 1).val < 3584 := (y 1).isLt
            show (y 1).val / 256 < 14
            omega)
        all_goals rfl
      rw [e1]
      refine put_upto _ _ _ _ _ _ _ (fun y => ?_) (fun y h => ?_)
      · have h1 : (y 1).val < 3584 := (y 1).isLt
        constructor
        · intro h
          have h0 : 256 * k.val ≤ (y 0).val ∧ (y 0).val < 256 * k.val + 256 := h 0
          show (y 0).val / 256 = k.val
          omega
        · intro h
          have h0 : (y 0).val / 256 = k.val := h
          exact forall_fin2.2 ⟨⟨by show 256 * k.val ≤ (y 0).val; omega, by show (y 0).val < 256 * k.val + 256; omega⟩,
            ⟨Nat.zero_le _, by show (y 1).val < 0 + 3584; omega⟩⟩
      · exact congrArg (dxOf A) (emb_local (s := S1792x3584) ![256 * k.val, 0] S256x3584.size (inb_rows ⟨k.val, hk⟩) y h)
    rw [← e]
    iexact H9
  iexists _
  iexact HO

end Cert.Kernel.Gen

end
-- ==== Proof.K.Body.lean ====
/- One grid point of the main kernel, on whole memrefs at named values. -/
module

public import proofs.«01_k».proof.Proof.Slabs
public import proofs.«01_k».proof.Proof.Gen.Kernel.Launch
public import proofs.«01_k».proof.Proof.Gen.Kernel.Skeleton
public import proofs.«01_k».proof.Proof.Gen.Kernel.Points
public import proofs.«01_k».proof.Proof.K.Trips
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [BitOps F]

local notation "𝕄" => MT nD τ sig Unit (Elt F) ℕ (Pipeline.UD sig nD τ) ℕ

variable (arg1 : Memref sig .tc .vmem S1792x256 .bf16) (harg1 : arg1.IsWhole) (arg2 : Memref sig .tc .vmem S1792x2x256 .bf16) (harg2 : arg2.IsWhole)
  (arg3 : Memref sig .tc .vmem S2x1792x256 .i8) (harg3 : arg3.IsWhole) (arg4 : Memref sig .tc .vmem S28x2x256 .bf16) (harg4 : arg4.IsWhole)
  (arg5 : Memref sig .tc .vmem S2x32x256 .bf16) (harg5 : arg5.IsWhole) (arg6 : Memref sig .tc .vmem S64x1792 .bf16) (harg6 : arg6.IsWhole)
  (arg7 : Memref sig .tc .vmem S64x3584 .bf16) (harg7 : arg7.IsWhole) (arg8 : Memref sig .tc .hbm S1792x3584 .bf16) (harg8 : arg8.IsWhole)
  (arg9 : Memref sig .tc .hbm S1792x3584 .bf16) (harg9 : arg9.IsWhole) (arg10 : Memref sig .tc .vmem S64x3584 .f32) (harg10 : arg10.IsWhole)
  (arg11 : Memref sig .tc .vmem S2x32x256 .f32) (harg11 : arg11.IsWhole) (arg12 : Memref sig .tc .vmem S64x1792 .bf16) (harg12 : arg12.IsWhole)
  (arg13 : Memref sig .tc .vmem S2x1792x256 .bf16) (harg13 : arg13.IsWhole) (arg14 : Memref sig .tc .vmem S14x1792x256 .f32) (harg14 : arg14.IsWhole)
  (arg15 : Memref sig .tc .vmem S2x32x1792 .f32) (harg15 : arg15.IsWhole) (arg16 : Memref sig .tc .vmem S256x3584 .bf16) (harg16 : arg16.IsWhole)
  (arg17 : Memref sig .tc .vmem S256x3584 .bf16) (harg17 : arg17.IsWhole) (arg18 : DmaSems sig S_)

variable (c : Dev nD) (𝒱 : Variants) (bd : Option 𝒱.V) (i : grid1.Coords)

theorem trips1 : Scf.trips k1_t1_loop.lb k1_t1_loop.ub k1_t1_loop.st = 14 := by decide +kernel
theorem trips2 : Scf.trips k1_t2_loop.lb k1_t2_loop.ub k1_t2_loop.st = 28 := by decide +kernel
theorem trips3 : Scf.trips k1_t3_loop.lb k1_t3_loop.ub k1_t3_loop.st = 14 := by decide +kernel
theorem trips4 : Scf.trips k1_t4_loop.lb k1_t4_loop.ub k1_t4_loop.st = 14 := by decide +kernel
theorem trips5 : Scf.trips k1_t5_loop.lb k1_t5_loop.ub k1_t5_loop.st = 7 := by decide +kernel

theorem upto_slab (n : ℕ) (h : n = 14) (new old : Vec F S14x1792x256 .f32) : upto slabOf n new old = new :=
  upto_all _ _ _ _ (fun y => by
    have : (y 0).val < 14 := (y 0).isLt
    show (y 0).val < n
    omega)

theorem upto_chunk (n : ℕ) (h : n = 28) (new old : Vec F S2x1792x256 .bf16) : upto chunkOf n new old = new :=
  upto_all _ _ _ _ (fun y => by
    have : (y 1).val < 1792 := (y 1).isLt
    show (y 1).val / 64 < n
    omega)

theorem upto_tile (n : ℕ) (h : n = 7) (new old : Vec F S1792x3584 .bf16) : upto tileOf n new old = new :=
  upto_all _ _ _ _ (fun y => by
    have : (y 0).val < 1792 := (y 0).isLt
    show (y 0).val / 256 < n
    omega)

variable (DH : Vec F S1792x256 .bf16) (Z : Vec F S1792x2x256 .bf16) (W : Vec F S2x1792x256 .i8) (S : Vec F S28x2x256 .bf16)
  (B : Vec F S2x32x256 .bf16) (XA : Vec F S64x1792 .bf16) (AT : Vec F S64x3584 .bf16) (X DX : Vec F S1792x3584 .bf16)
  (X10 : Vec F S64x3584 .f32) (X11 : Vec F S2x32x256 .f32) (X12 : Vec F S64x1792 .bf16) (X13 : Vec F S2x1792x256 .bf16)
  (ACC : Vec F S14x1792x256 .f32) (G : Vec F S2x32x1792 .f32)

/-- The half of a two-plane array a position is in. -/
theorem half_mem {m n : ℕ} (p : ℕ) (y : (⟨3, ![2, m, n]⟩ : Shape).Idx) :
    (∀ a, (![p, 0, 0] : Fin 3 → ℕ) a ≤ (y a).val ∧ (y a).val < (![p, 0, 0] : Fin 3 → ℕ) a + (![1, m, n] : Fin 3 → ℕ) a) ↔ (y 0).val = p := by
  have h1 : (y 1).val < m := (y 1).isLt
  have h2 : (y 2).val < n := (y 2).isLt
  constructor
  · intro h
    have h0 : p ≤ (y 0).val ∧ (y 0).val < p + 1 := h 0
    omega
  · intro h0
    exact forall_fin3.2 ⟨⟨by show p ≤ (y 0).val; omega, by show (y 0).val < p + 1; omega⟩,
      ⟨Nat.zero_le _, by show (y 1).val < 0 + m; omega⟩, ⟨Nat.zero_le _, by show (y 2).val < 0 + n; omega⟩⟩

theorem half_local {m n : ℕ} (p : ℕ) (y : (⟨3, ![2, m, n]⟩ : Shape).Idx)
    (h : ∀ a, (![p, 0, 0] : Fin 3 → ℕ) a ≤ (y a).val ∧ (y a).val < (![p, 0, 0] : Fin 3 → ℕ) a + (![1, m, n] : Fin 3 → ℕ) a) :
    @Eq (⟨3, ![1, m, n]⟩ : Shape).Idx (Rect.unitLocal (s := (⟨3, ![2, m, n]⟩ : Shape)) (off := ![p, 0, 0]) (size := ![1, m, n]) y h)
      (ix3 (0 : Fin 1) (y 1 : Fin m) (y 2 : Fin n)) := by
  have h0 : p ≤ (y 0).val ∧ (y 0).val < p + 1 := h 0
  funext a
  match a with
  | 0 => exact Fin.ext (by show (y 0).val - p = 0; omega)
  | 1 => rfl
  | 2 => rfl

/-- Writing both planes of a two-plane array. -/
theorem put_halves {m n : ℕ} {α : Type} (x : (⟨3, ![2, m, n]⟩ : Shape).Idx → α) (w0 w1 : (⟨3, ![1, m, n]⟩ : Shape).Idx → α) :
    VecWindow.put (s := ⟨3, ![2, m, n]⟩) (VecWindow.put (s := ⟨3, ![2, m, n]⟩) x ![0, 0, 0] ![1, m, n] w0) ![1, 0, 0] ![1, m, n] w1
      = fun y => if (y 0).val = 0 then w0 (ix3 (0 : Fin 1) (y 1 : Fin m) (y 2 : Fin n)) else w1 (ix3 (0 : Fin 1) (y 1 : Fin m) (y 2 : Fin n)) := by
  rw [← upto_zero (fun _ => 0) (fun y => if (y 0).val = 0 then w0 (ix3 (0 : Fin 1) (y 1 : Fin m) (y 2 : Fin n)) else w1 (ix3 (0 : Fin 1) (y 1 : Fin m) (y 2 : Fin n))) x]
  refine (put_put_upto _ _ _ _ _ _ _ _ _ _ (fun y => ?_) (fun y h => ?_) (fun y h => ?_)).trans (upto_all _ _ _ _ (fun _ => Nat.zero_lt_one))
  · have h0 : (y 0).val < 2 := (y 0).isLt
    rw [half_mem, half_mem]
    constructor
    · intro _; rfl
    · intro _; omega
  · have hm := (half_mem 0 y).1 h
    rw [if_pos hm]
    exact congrArg w0 (half_local 0 y h)
  · have hm := (half_mem 1 y).1 h
    rw [if_neg (by omega)]
    exact congrArg w1 (half_local 1 y h)

/-- The memrefs a grid point does not write, at their values. -/
def ins : sProp 𝕄 :=
  iprop(at_ c arg1 harg1 DH ∗ at_ c arg2 harg2 Z ∗ at_ c arg3 harg3 W ∗ at_ c arg4 harg4 S ∗ at_ c arg5 harg5 B ∗ at_ c arg6 harg6 XA ∗ at_ c arg7 harg7 AT
    ∗ (arg8.view.loc (c : Thread nD τ) ↦{fullShare} harg8.unread X))

/-- The scratch of which nothing is said: the two staging buffers of the copies, and the semaphore and waits. -/
def junk : sProp 𝕄 :=
  iprop((∃ x, at_ (F := F) c arg16 harg16 x) ∗ (∃ x, at_ (F := F) c arg17 harg17 x) ∗ semVal ((c : Thread nD τ), SemLoc.dma arg18.sem) 0 ∗ (∃ W, owes (c : Thread nD τ) 0 W))

/-- The memrefs a grid point writes, at their values. -/
def outs (DX : Vec F S1792x3584 .bf16) (X10 : Vec F S64x3584 .f32) (X11 : Vec F S2x32x256 .f32) (X12 : Vec F S64x1792 .bf16) (X13 : Vec F S2x1792x256 .bf16)
    (ACC : Vec F S14x1792x256 .f32) (G : Vec F S2x32x1792 .f32) : sProp 𝕄 :=
  iprop((arg9.view.loc (c : Thread nD τ) ↦{fullShare} harg9.unread DX) ∗ at_ c arg10 harg10 X10 ∗ at_ c arg11 harg11 X11 ∗ at_ c arg12 harg12 X12 ∗ at_ c arg13 harg13 X13
    ∗ at_ c arg14 harg14 ACC ∗ at_ c arg15 harg15 G)

set_option maxHeartbeats 1000000 in
/-- The first point: the accumulators start from zero. -/
theorem body_first (h1 : k1_cond1 i = 1#1) (h2 : ¬ k1_cond2 i = 1#1) :
    iprop(ins arg1 harg1 arg2 harg2 arg3 harg3 arg4 harg4 arg5 harg5 arg6 harg6 arg7 harg7 arg8 harg8 c DH Z W S B XA AT X
        ∗ outs arg9 harg9 arg10 harg10 arg11 harg11 arg12 harg12 arg13 harg13 arg14 harg14 arg15 harg15 c DX X10 X11 X12 X13 ACC G
        ∗ junk (F := F) arg16 harg16 arg17 harg17 arg18 c)
      ⊢ wp frame (wpE (defs₀ (F := F)) 𝒱 (c : Thread nD τ) bd) Set.univ (cc1_main (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18)
          (fun _ => iprop(ins arg1 harg1 arg2 harg2 arg3 harg3 arg4 harg4 arg5 harg5 arg6 harg6 arg7 harg7 arg8 harg8 c DH Z W S B XA AT X
            ∗ outs arg9 harg9 arg10 harg10 arg11 harg11 arg12 harg12 arg13 harg13 arg14 harg14 arg15 harg15 c
                DX X10 (dbOf XA (dzOf DH Z)) X12 (dzOf DH Z) (accNext W S (dzOf DH Z) accZero) (gNext B (dzOf DH Z) k1_pay30)
            ∗ junk (F := F) arg16 harg16 arg17 harg17 arg18 c)) := by
  simp only [cc1_main_eq_skeleton]; unfold cc1_main_skel
  unfold ins outs junk
  iintro ⟨⟨H1, H2, H3, H4, H5, H6, H7, H8⟩, ⟨H9, H10, H11, H12, H13, H14, H15⟩, ⟨H16, H17, HS, HO⟩⟩
  sl_exec (disch := first | sl_exact h1 | sl_exact h2)
  sl_for (inv1 arg14 harg14 c ACC) $$ [H14]
  · intro k acc
    exact trip1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i h1 ACC k acc
  · unfold inv1
    rw [upto_zero]
    iexact H14
  iintro %a1 H14; unfold inv1
  rw [upto_slab _ trips1]
  ihave H15 := (at_of c arg15 harg15 (k1_pay30 (F := F))) $$ [H15]
  · iexists _
    isplitl [H15]; · iexact H15
    ipureintro
    exact View.read_writes_full _ _ _ _ _
  sl_exec (disch := first | sl_exact h1 | sl_exact h2)
  sl_for (inv2 arg1 harg1 arg2 harg2 arg13 harg13 c DH Z X13) $$ [H1 H2 H13]
  · intro k acc
    exact trip2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i DH Z X13 k acc
  · unfold inv2
    rw [upto_zero]
    isplitl [H1]; · iexact H1
    isplitl [H2]; · iexact H2
    iexact H13
  iintro %a2 HI; unfold inv2; icases HI with ⟨H1, H2, H13⟩
  rw [upto_chunk _ trips2]
  sl_exec (disch := first | sl_exact h1 | sl_exact h2)
  sl_for (inv3 arg3 harg3 arg4 harg4 arg13 harg13 arg14 harg14 c W S (dzOf DH Z) accZero) $$ [H3 H4 H13 H14]
  · intro k acc
    exact trip3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i W S (dzOf DH Z) accZero k acc
  · unfold inv3
    rw [upto_zero]
    isplitl [H3]; · iexact H3
    isplitl [H4]; · iexact H4
    isplitl [H13]; · iexact H13
    iexact H14
  iintro %a3 HI; unfold inv3; icases HI with ⟨H3, H4, H13, H14⟩
  rw [upto_slab _ trips3]
  sl_exec (disch := first | sl_exact h1 | sl_exact h2)
  ihave H15 := (at_of c arg15 harg15 (gNext B (dzOf DH Z) k1_pay30)) $$ [H15]
  · iexists _
    isplitl [H15]; · iexact H15
    ipureintro
    unfold body_first.sl.v26
    rw [View.read_writes_cons_put _ _ _ _ _ rfl, View.read_writes_cons_put _ _ _ _ _ rfl,
      rd harg15 k1_pay30 inb_S2x32x1792_S1x32x1792_1_0_0 rfl (inb_g 1), rd harg15 k1_pay30 inb_S2x32x1792_S1x32x1792_0_0_0 rfl (inb_g 0),
      rd harg5 B inb_S2x32x256_S1x32x256_1_0_0 rfl (inb_b 1), rd harg5 B inb_S2x32x256_S1x32x256_0_0_0 rfl (inb_b 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  ihave H11 := (at_of c arg11 harg11 (dbOf XA (dzOf DH Z))) $$ [H11]
  · iexists _
    isplitl [H11]; · iexact H11
    ipureintro
    unfold body_first.sl.r
    rw [View.read_writes_cons_put _ _ _ _ _ rfl, View.read_writes_cons_put _ _ _ _ _ rfl,
      rd harg6 XA inb_S64x1792_S32x1792_32_0 rfl (inb_xa 1), rd harg6 XA inb_S64x1792_S32x1792_0_0 rfl (inb_xa 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  sl_step
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitr [H16 H17 HS HO]
  · isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  isplitl [H17]; · iexact H17
  isplitl [HS]; · iexact HS
  iexact HO

set_option maxHeartbeats 1000000 in
/-- A point that is neither first nor last. -/
theorem body_mid (h1 : ¬ k1_cond1 i = 1#1) (h2 : ¬ k1_cond2 i = 1#1) :
    iprop(ins arg1 harg1 arg2 harg2 arg3 harg3 arg4 harg4 arg5 harg5 arg6 harg6 arg7 harg7 arg8 harg8 c DH Z W S B XA AT X
        ∗ outs arg9 harg9 arg10 harg10 arg11 harg11 arg12 harg12 arg13 harg13 arg14 harg14 arg15 harg15 c DX X10 X11 X12 X13 ACC G
        ∗ junk (F := F) arg16 harg16 arg17 harg17 arg18 c)
      ⊢ wp frame (wpE (defs₀ (F := F)) 𝒱 (c : Thread nD τ) bd) Set.univ (cc1_main (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18)
          (fun _ => iprop(ins arg1 harg1 arg2 harg2 arg3 harg3 arg4 harg4 arg5 harg5 arg6 harg6 arg7 harg7 arg8 harg8 c DH Z W S B XA AT X
            ∗ outs arg9 harg9 arg10 harg10 arg11 harg11 arg12 harg12 arg13 harg13 arg14 harg14 arg15 harg15 c
                DX X10 (dbOf XA (dzOf DH Z)) X12 (dzOf DH Z) (accNext W S (dzOf DH Z) ACC) (gNext B (dzOf DH Z) G)
            ∗ junk (F := F) arg16 harg16 arg17 harg17 arg18 c)) := by
  simp only [cc1_main_eq_skeleton]; unfold cc1_main_skel
  unfold ins outs junk
  iintro ⟨⟨H1, H2, H3, H4, H5, H6, H7, H8⟩, ⟨H9, H10, H11, H12, H13, H14, H15⟩, ⟨H16, H17, HS, HO⟩⟩
  sl_exec (disch := first | sl_exact h1 | sl_exact h2)
  sl_for (inv2 arg1 harg1 arg2 harg2 arg13 harg13 c DH Z X13) $$ [H1 H2 H13]
  · intro k acc
    exact trip2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i DH Z X13 k acc
  · unfold inv2
    rw [upto_zero]
    isplitl [H1]; · iexact H1
    isplitl [H2]; · iexact H2
    iexact H13
  iintro %a2 HI; unfold inv2; icases HI with ⟨H1, H2, H13⟩
  rw [upto_chunk _ trips2]
  sl_exec (disch := first | sl_exact h1 | sl_exact h2)
  sl_for (inv3 arg3 harg3 arg4 harg4 arg13 harg13 arg14 harg14 c W S (dzOf DH Z) ACC) $$ [H3 H4 H13 H14]
  · intro k acc
    exact trip3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i W S (dzOf DH Z) ACC k acc
  · unfold inv3
    rw [upto_zero]
    isplitl [H3]; · iexact H3
    isplitl [H4]; · iexact H4
    isplitl [H13]; · iexact H13
    iexact H14
  iintro %a3 HI; unfold inv3; icases HI with ⟨H3, H4, H13, H14⟩
  rw [upto_slab _ trips3]
  sl_exec (disch := first | sl_exact h1 | sl_exact h2)
  ihave H15 := (at_of c arg15 harg15 (gNext B (dzOf DH Z) G)) $$ [H15]
  · iexists _
    isplitl [H15]; · iexact H15
    ipureintro
    unfold body_mid.sl.v26
    rw [View.read_writes_cons_put _ _ _ _ _ rfl, View.read_writes_cons_put _ _ _ _ _ rfl,
      rd harg15 G inb_S2x32x1792_S1x32x1792_1_0_0 rfl (inb_g 1), rd harg15 G inb_S2x32x1792_S1x32x1792_0_0_0 rfl (inb_g 0),
      rd harg5 B inb_S2x32x256_S1x32x256_1_0_0 rfl (inb_b 1), rd harg5 B inb_S2x32x256_S1x32x256_0_0_0 rfl (inb_b 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  ihave H11 := (at_of c arg11 harg11 (dbOf XA (dzOf DH Z))) $$ [H11]
  · iexists _
    isplitl [H11]; · iexact H11
    ipureintro
    unfold body_mid.sl.r
    rw [View.read_writes_cons_put _ _ _ _ _ rfl, View.read_writes_cons_put _ _ _ _ _ rfl,
      rd harg6 XA inb_S64x1792_S32x1792_32_0 rfl (inb_xa 1), rd harg6 XA inb_S64x1792_S32x1792_0_0 rfl (inb_xa 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  sl_step
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitr [H16 H17 HS HO]
  · isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  isplitl [H17]; · iexact H17
  isplitl [HS]; · iexact HS
  iexact HO

set_option maxHeartbeats 1000000 in
/-- The last point. -/
theorem body_last (h1 : ¬ k1_cond1 i = 1#1) (h2 : k1_cond2 i = 1#1) :
    iprop(ins arg1 harg1 arg2 harg2 arg3 harg3 arg4 harg4 arg5 harg5 arg6 harg6 arg7 harg7 arg8 harg8 c DH Z W S B XA AT X
        ∗ outs arg9 harg9 arg10 harg10 arg11 harg11 arg12 harg12 arg13 harg13 arg14 harg14 arg15 harg15 c DX X10 X11 X12 X13 ACC G
        ∗ junk (F := F) arg16 harg16 arg17 harg17 arg18 c)
      ⊢ wp frame (wpE (defs₀ (F := F)) 𝒱 (c : Thread nD τ) bd) Set.univ (cc1_main (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18)
          (fun _ => iprop(ins arg1 harg1 arg2 harg2 arg3 harg3 arg4 harg4 arg5 harg5 arg6 harg6 arg7 harg7 arg8 harg8 c DH Z W S B XA AT X
            ∗ outs arg9 harg9 arg10 harg10 arg11 harg11 arg12 harg12 arg13 harg13 arg14 harg14 arg15 harg15 c
                (dxOf (accLast (gNext B (dzOf DH Z) G) AT (accNext W S (dzOf DH Z) ACC))) (daUpto (gNext B (dzOf DH Z) G) X 7) (dbOf XA (dzOf DH Z)) (k1_pay4 (gNext B (dzOf DH Z) G)) (dzOf DH Z)
                (accLast (gNext B (dzOf DH Z) G) AT (accNext W S (dzOf DH Z) ACC)) (gNext B (dzOf DH Z) G)
            ∗ junk (F := F) arg16 harg16 arg17 harg17 arg18 c)) := by
  simp only [cc1_main_eq_skeleton]; unfold cc1_main_skel
  unfold ins outs junk
  iintro ⟨⟨H1, H2, H3, H4, H5, H6, H7, H8⟩, ⟨H9, H10, H11, H12, H13, H14, H15⟩, ⟨H16, H17, HS, HO⟩⟩
  sl_exec (disch := first | sl_exact h1 | sl_exact h2)
  sl_for (inv2 arg1 harg1 arg2 harg2 arg13 harg13 c DH Z X13) $$ [H1 H2 H13]
  · intro k acc
    exact trip2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i DH Z X13 k acc
  · unfold inv2
    rw [upto_zero]
    isplitl [H1]; · iexact H1
    isplitl [H2]; · iexact H2
    iexact H13
  iintro %a2 HI; unfold inv2; icases HI with ⟨H1, H2, H13⟩
  rw [upto_chunk _ trips2]
  sl_exec (disch := first | sl_exact h1 | sl_exact h2)
  sl_for (inv3 arg3 harg3 arg4 harg4 arg13 harg13 arg14 harg14 c W S (dzOf DH Z) ACC) $$ [H3 H4 H13 H14]
  · intro k acc
    exact trip3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i W S (dzOf DH Z) ACC k acc
  · unfold inv3
    rw [upto_zero]
    isplitl [H3]; · iexact H3
    isplitl [H4]; · iexact H4
    isplitl [H13]; · iexact H13
    iexact H14
  iintro %a3 HI; unfold inv3; icases HI with ⟨H3, H4, H13, H14⟩
  rw [upto_slab _ trips3]
  sl_exec (disch := first | sl_exact h1 | sl_exact h2)
  have eg : arg15.view.read (Elt F) (arg15.view.writes (Elt F) arg15.view.junk (body_last.sl.H15_2 arg5 harg5 arg13 harg13 arg15 harg15 DH Z B G)) = gNext B (dzOf DH Z) G := by
    unfold body_last.sl.H15_2 body_last.sl.v26
    rw [View.read_writes_cons_put _ _ _ _ _ rfl, View.read_writes_cons_put _ _ _ _ _ rfl,
      rd harg15 G inb_S2x32x1792_S1x32x1792_1_0_0 rfl (inb_g 1), rd harg15 G inb_S2x32x1792_S1x32x1792_0_0_0 rfl (inb_g 0),
      rd harg5 B inb_S2x32x256_S1x32x256_1_0_0 rfl (inb_b 1), rd harg5 B inb_S2x32x256_S1x32x256_0_0_0 rfl (inb_b 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  have ev : body_last.sl.v50 arg5 harg5 arg13 harg13 arg15 harg15 DH Z B G = gNext B (dzOf DH Z) G := by
    unfold body_last.sl.v50 View.readCov
    rw [View.readAt_full]
    exact eg
  have ed : arg11.view.read (Elt F) (arg11.view.writes (Elt F) arg11.view.junk (body_last.sl.H11_2 arg6 harg6 arg13 harg13 DH Z XA)) = dbOf XA (dzOf DH Z) := by
    unfold body_last.sl.H11_2 body_last.sl.r
    rw [View.read_writes_cons_put _ _ _ _ _ rfl, View.read_writes_cons_put _ _ _ _ _ rfl,
      rd harg6 XA inb_S64x1792_S32x1792_32_0 rfl (inb_xa 1), rd harg6 XA inb_S64x1792_S32x1792_0_0 rfl (inb_xa 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  rw [ev]
  ihave H15 := (at_of c arg15 harg15 (gNext B (dzOf DH Z) G)) $$ [H15]
  · iexists _
    isplitl [H15]; · iexact H15
    ipureintro
    exact eg
  sl_for (inv4 arg7 harg7 arg14 harg14 c (gNext B (dzOf DH Z) G) AT (accNext W S (dzOf DH Z) ACC)) $$ [H7 H14]
  · intro k acc
    exact trip4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i h2 (gNext B (dzOf DH Z) G) AT (accNext W S (dzOf DH Z) ACC) k acc
  · unfold inv4
    rw [upto_zero]
    isplitl [H7]; · iexact H7
    iexact H14
  iintro %a4 HI; unfold inv4; icases HI with ⟨H7, H14⟩
  rw [upto_slab _ trips4]
  sl_exec
  ihave H10 := (at_of c arg10 harg10 (daUpto (gNext B (dzOf DH Z) G) X 0)) $$ [H10]
  · iexists _
    isplitl [H10]; · iexact H10
    ipureintro
    exact View.read_writes_full _ _ _ _ _
  sl_for (inv5 arg8 harg8 arg9 harg9 arg10 harg10 arg14 harg14 arg15 harg15 arg16 harg16 arg17 harg17 arg18 c (gNext B (dzOf DH Z) G) (accLast (gNext B (dzOf DH Z) G) AT (accNext W S (dzOf DH Z) ACC)) X DX) $$ [H14 H15 H8 H10 H17 HS H16 H9 HO]
  · intro k acc
    exact trip5 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd i h2 (gNext B (dzOf DH Z) G) (accLast (gNext B (dzOf DH Z) G) AT (accNext W S (dzOf DH Z) ACC)) X DX k acc
  · unfold inv5
    rw [upto_zero]
    isplitl [H14]; · iexact H14
    isplitl [H15]; · iexact H15
    isplitl [H8]; · iexact H8
    isplitl [H10]; · iexact H10
    isplitl [H17]; · iexact H17
    isplitl [HS]; · iexact HS
    isplitl [H16]; · iexact H16
    isplitl [H9]; · iexact H9
    iexact HO
  iintro %a5 HI; unfold inv5; icases HI with ⟨H14, H15, H8, H10, H17, HS, H16, H9, HO⟩
  rw [upto_tile _ trips5, trips5]
  sl_exec
  sl_step
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitr [H16 H17 HS HO]
  · isplitl [H9]; · iexact H9
    isplitl [H10]; · iexact H10
    isplitl [H11]
    · iapply at_of
      iexists _
      isplitl [H11]; · iexact H11
      ipureintro
      exact ed
    isplitl [H12]
    · iapply at_of
      iexists _
      isplitl [H12]; · iexact H12
      ipureintro
      unfold body_last.sl.H12_1
      rw [View.read_writes_full, ev]
    isplitl [H13]; · iexact H13
    isplitl [H14]; · iexact H14
    iexact H15
  isplitl [H16]; · iexact H16
  isplitl [H17]; · iexact H17
  isplitl [HS]; · iexact HS
  iexact HO

end Cert.Kernel.Gen

end
-- ==== Proof.K.Region1.lean ====
/- The main kernel of the program, run by the pipeline: what its state is before each grid point, and that its body keeps it so. -/
module

public import proofs.«01_k».proof.Proof.Slabs
public import proofs.«01_k».proof.Proof.Gen.Kernel.Launch
public import proofs.«01_k».proof.Proof.Gen.Kernel.Skeleton
public import proofs.«01_k».proof.Proof.Gen.Kernel.Points
public import proofs.«01_k».proof.Proof.K.Body
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [BitOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions -/

theorem hcond1 : ∀ t : Fin cfg1.N, k1_cond1 (grid1.coords t) = 1#1 ↔ t.val = 0 :=
  (fun t => by
    have ht : t.val < 74 := Nat.lt_of_lt_of_eq t.isLt N_1
    have e0 : (grid1.coords t 0).val = t.val / 1 % 74 := Pipeline.Grid.coords_val t 0 (by decide) rfl
    simp only [k1_cond1, e0]
    word_cmp
   : ∀ t : Fin grid1.N, k1_cond1 (grid1.coords t) = 1#1 ↔ t.val = 0)

theorem hcond2 : ∀ t : Fin cfg1.N, k1_cond2 (grid1.coords t) = 1#1 ↔ t.val = 73 :=
  (fun t => by
    have ht : t.val < 74 := Nat.lt_of_lt_of_eq t.isLt N_1
    have e0 : (grid1.coords t 0).val = t.val / 1 % 74 := Pipeline.Grid.coords_val t 0 (by decide) rfl
    simp only [k1_cond2, e0]
    word_cmp
   : ∀ t : Fin grid1.N, k1_cond2 (grid1.coords t) = 1#1 ↔ t.val = 73)

theorem N1_lt (t : Fin cfg1.N) : t.val < 74 := lt_of_lt_of_eq t.isLt (show cfg1.N = 74 from N_1)

/-- The last point. -/
def tLast : Fin cfg1.N := ⟨73, lt_of_lt_of_eq (by decide : 73 < 74) (show cfg1.N = 74 from N_1).symm⟩

/-! ## What has been computed before each point -/

/-- The cotangents of the two projections at a point. -/
def dzAt (c : Dev nD) (t : Fin cfg1.N) : Vec F S2x1792x256 .bf16 := dzOf (iblk1 V c 0 t) (iblk1 V c 1 t)

/-- The accumulator before point `n`. -/
def accAt (c : Dev nD) : (n : ℕ) → n ≤ cfg1.N → Vec F S14x1792x256 .f32
  | 0, _ => accZero
  | n + 1, h => accNext (iblk1 V c 2 ⟨n, h⟩) (iblk1 V c 3 ⟨n, h⟩) (dzAt V c ⟨n, h⟩) (accAt c n (Nat.le_of_lt h))

/-- The projected cotangents before point `n`. -/
def gAt (c : Dev nD) : (n : ℕ) → n ≤ cfg1.N → Vec F S2x32x1792 .f32
  | 0, _ => k1_pay30
  | n + 1, h => gNext (iblk1 V c 4 ⟨n, h⟩) (dzAt V c ⟨n, h⟩) (gAt c n (Nat.le_of_lt h))

/-- The projected cotangents at the end. -/
def gEnd (c : Dev nD) : Vec F S2x32x1792 .f32 := gAt V c (73 + 1) tLast.isLt
/-- The accumulator at the end, the low-rank term added. -/
def accEnd (c : Dev nD) : Vec F S14x1792x256 .f32 := accLast (gEnd V c) (iblk1 V c 6 tLast) (accAt V c (73 + 1) tLast.isLt)
/-- The gradient of the other low-rank factor. -/
def daEnd (c : Dev nD) : Vec F S64x3584 .f32 := daUpto (gEnd V c) (V c main_v0) 7
/-- The projected cotangents, rounded. -/
def gOut (c : Dev nD) : Vec F S64x1792 .bf16 := k1_pay4 (gEnd V c)
/-- The gradient of the input. -/
def dxEnd (c : Dev nD) : Vec F S1792x3584 .bf16 := dxOf (accEnd V c)
/-- A point's block of the gradient of the low-rank factor. -/
def dbAt (c : Dev nD) (t : Fin cfg1.N) : Vec F S2x32x256 .f32 := dbOf (iblk1 V c 5 t) (dzAt V c t)

/-- The array of the input's gradient before point `n`: written at the last point only. -/
def dxAt (c : Dev nD) (n : ℕ) : Vec F S1792x3584 .bf16 := if n = 74 then dxEnd V c else V c main_v7_0

/-- What the two accumulators hold before point `n`. -/
def StateAt (c : Dev nD) (n : ℕ) (hn : n ≤ cfg1.N) (ACC : Vec F S14x1792x256 .f32) (G : Vec F S2x32x1792 .f32) : Prop :=
  0 < n → n < 74 → ACC = accAt V c n hn ∧ G = gAt V c n hn

/-! ## The memrefs of a point -/

abbrev ms1_0 (t : Fin cfg1.N) : Memref sig .tc .vmem S1792x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1792x2x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x1792x256 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S28x2x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x32x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x1792 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x3584 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x3584 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x32x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x1792 .bf16 := win1_9.stage (cfg1.slots t 9)
abbrev hs1_9 (t : Fin cfg1.N) : (ms1_9 t).IsWhole := hstage1_9 ((cfg1.slots t 9).cast nbuf1_9)
abbrev scM1_0 : Memref sig .tc .vmem S2x1792x256 .bf16 := Memref.whole cc1_scratch0
abbrev scM1_1 : Memref sig .tc .vmem S14x1792x256 .f32 := Memref.whole cc1_scratch1
abbrev scM1_2 : Memref sig .tc .vmem S2x32x1792 .f32 := Memref.whole cc1_scratch2
abbrev scM1_3 : Memref sig .tc .vmem S256x3584 .bf16 := Memref.whole cc1_scratch3
abbrev scM1_4 : Memref sig .tc .vmem S256x3584 .bf16 := Memref.whole cc1_scratch4

theorem unread_whole (b : Ref sig .tc) (X : b.ty.shape.Idx → Elt F b.ty.elt) : (Memref.isWhole_whole b).unread X = X :=
  ((Memref.isWhole_whole b).eq_unread (f := X) (View.read_whole _ _)).symm

/-- The input array the last point copies from. -/
abbrev mv0 : Memref sig .tc .hbm S1792x3584 .bf16 := Memref.whole main_v0
theorem hmv0 : mv0.IsWhole := Memref.isWhole_whole _
/-- The output array the last point copies to. -/
abbrev mv7 : Memref sig .tc .hbm S1792x3584 .bf16 := Memref.whole main_v7_0
theorem hmv7 : mv7.IsWhole := Memref.isWhole_whole _
theorem pts_v0 (c : Dev nD) (X : Vec F S1792x3584 .bf16) :
    (mv0.view.loc (c : Thread nD τ) ↦{fullShare} hmv0.unread X : sProp 𝕄) = (((c : Thread nD τ).loc main_v0) ↦{fullShare} X) :=
  congrArg (fun Y => (((c : Thread nD τ).loc main_v0) ↦{fullShare} Y : sProp 𝕄)) (unread_whole main_v0 X)
theorem pts_v7 (c : Dev nD) (X : Vec F S1792x3584 .bf16) :
    (mv7.view.loc (c : Thread nD τ) ↦{fullShare} hmv7.unread X : sProp 𝕄) = (((c : Thread nD τ).loc main_v7_0) ↦{fullShare} X) :=
  congrArg (fun Y => (((c : Thread nD τ).loc main_v7_0) ↦{fullShare} Y : sProp 𝕄)) (unread_whole main_v7_0 X)

theorem at_whole (c : Dev nD) (b : Ref sig .tc) (X : b.ty.shape.Idx → Elt F b.ty.elt) :
    (at_ (F := F) c (Memref.whole b) (Memref.isWhole_whole b) X : sProp 𝕄) = (((c : Thread nD τ).loc b) ↦{fullShare} X) := by
  unfold at_
  rw [unread_whole]
  simp only [Memref.view_whole, View.set_whole]

theorem at_of_owns (c : Dev nD) {sp : Space} {s : Shape} {e : EltTy} (a : Memref sig .tc sp s e) (h : a.IsWhole) (x : s.Idx → Elt F e) :
    (owns (c : Thread nD τ) a fullShare x : sProp 𝕄) ⊢ at_ (F := F) c a h x := by
  unfold owns
  iintro ⟨%f, %e, H⟩
  iapply at_of
  iexists f
  isplitl [H]; · iexact H
  ipureintro; exact e

theorem owns_of_at (c : Dev nD) {sp : Space} {s : Shape} {e : EltTy} (a : Memref sig .tc sp s e) (h : a.IsWhole) (x : s.Idx → Elt F e) :
    at_ (F := F) c a h x ⊢ (owns (c : Thread nD τ) a fullShare x : sProp 𝕄) := by
  unfold owns
  iintro H
  iexists _
  isplitr; swap; · iexact H
  ipureintro; exact h.read_unread x

/-- The kernel's own semaphore. -/
abbrev osem1 : Fin 1 → SemLoc sig := fun j => (![SemLoc.dma 21] : Fin 1 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 21) 0) := by
  rw [Pipeline.ownSems0_eq_of_list c osem1 [0] (by decide) (by decide)]; rfl
/-- The arrays the body copies from and to itself. -/
def H1 : Finset (Ref sig .tc) := {main_v0, main_v7_0}
theorem H1_sub : H1 ⊆ Pipeline.restRefs sig spec1 := by decide
theorem H1_eq (c : Dev nD) (f : (b : Ref sig .tc) → Buf (Elt F) ((c : Thread nD τ).loc b)) :
    (bigSep H1 (fun b => ((c : Thread nD τ).loc b) ↦{fullShare} f b) : sProp 𝕄)
      = iprop((((c : Thread nD τ).loc main_v0) ↦{fullShare} f main_v0) ∗ (((c : Thread nD τ).loc main_v7_0) ↦{fullShare} f main_v7_0)) := by
  rw [BI.bigSep_eq_bigSepL_of_eq [main_v0, main_v7_0] (by decide) (by decide)]; rfl

/-! ## The invariant and the proof data -/

/-- What the region does not touch. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ ∃ r, prngReg c r)

/-- The kernel's scratch, own semaphore and own arrays at point `n`. -/
def own1 (c : Dev nD) (n : ℕ) (hn : n ≤ cfg1.N) : sProp 𝕄 :=
  iprop((∃ X13 ACC G, ⌜StateAt V c n hn ACC G⌝
      ∗ at_ (F := F) c scM1_0 (Memref.isWhole_whole _) X13 ∗ at_ (F := F) c scM1_1 (Memref.isWhole_whole _) ACC ∗ at_ (F := F) c scM1_2 (Memref.isWhole_whole _) G)
    ∗ (∃ x, at_ (F := F) c scM1_3 (Memref.isWhole_whole _) x) ∗ (∃ x, at_ (F := F) c scM1_4 (Memref.isWhole_whole _) x)
    ∗ semVal ((c : Thread nD τ), SemLoc.dma 21) 0
    ∗ (((c : Thread nD τ).loc main_v0) ↦{fullShare} V c main_v0) ∗ (((c : Thread nD τ).loc main_v7_0) ↦{fullShare} dxAt V c n))

def Phi1 (c : Dev nD) (n : ℕ) (hn : n ≤ cfg1.N) : sProp 𝕄 := iprop(rest1 (F := F) c ∗ own1 V c n hn)

/-- The proof data: the arrays as the region finds them; after the body each input's buffer at its block, the outputs' at the
    values computed; the invariant above; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => daEnd V c
    | ⟨8, _⟩ => dbAt V c t
    | ⟨9, _⟩ => gOut V c
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) : (dat1 V c).Φ t.castSucc = Phi1 V c t.val (Nat.le_of_lt t.isLt) := by
  dsimp only [dat1]; exact Pipeline.Dat.Φ_castSucc (Phi1 V c) t
theorem Phi1_succ (c : Dev nD) (t : Fin cfg1.N) : (dat1 V c).Φ t.succ = Phi1 V c (t.val + 1) t.isLt := by
  dsimp only [dat1]; rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = daEnd V c := by dsimp only [dat1]
theorem after1_8 (c : Dev nD) (t : Fin cfg1.N) : (dat1 V c).after 8 t = dbAt V c t := by dsimp only [dat1]
theorem after1_9 (c : Dev nD) (t : Fin cfg1.N) : (dat1 V c).after 9 t = gOut V c := by dsimp only [dat1]

/-- An input's current buffer holds its block at every point, fetched there or not. -/
theorem before1_in (c : Dev nD) (w : Fin cfg1.W) (hw : (cfg1.win w).isOut = false) (hi : ∀ i, cfg1.idle w i = false)
    (hc : ∀ t t' : Fin cfg1.N, (cfg1.win w).index t = (cfg1.win w).index t' → (cfg1.win w).clip (cfg1.grid.coords t) = (cfg1.win w).clip (cfg1.grid.coords t'))
    (hk : ∀ t, (cfg1.win w).cut (cfg1.grid.coords t) ((dat1 V c).after w t) = (dat1 V c).blockOf w t) {X : (cfg1.win w).block.Idx → Elt F (cfg1.win w).elt}
    (t : Fin cfg1.N) (d) (hf : (dat1 V c).fetched w t d = X) : (dat1 V c).before w t d = X :=
  ((dat1 V c).before_in_eq_fetched w hw hi hc hk t d).trans hf

theorem before1_0 (c : Dev nD) (t : Fin cfg1.N) (d) : (dat1 V c).before 0 t d = iblk1 V c 0 t :=
  before1_in V c 0 rfl (fun _ => rfl) (fun _ _ _ => rfl) (fun t => by rw [after1_0]; unfold Dat.blockOf iblk1; rw [A_eq1]; try rfl) t d
    (by unfold Dat.fetched Dat.blockOf iblk1; rw [A_eq1]; try rfl)
theorem before1_1 (c : Dev nD) (t : Fin cfg1.N) (d) : (dat1 V c).before 1 t d = iblk1 V c 1 t :=
  before1_in V c 1 rfl (fun _ => rfl) (fun _ _ _ => rfl) (fun t => by rw [after1_1]; unfold Dat.blockOf iblk1; rw [A_eq1]; try rfl) t d
    (by unfold Dat.fetched Dat.blockOf iblk1; rw [A_eq1]; try rfl)
theorem before1_2 (c : Dev nD) (t : Fin cfg1.N) (d) : (dat1 V c).before 2 t d = iblk1 V c 2 t :=
  before1_in V c 2 rfl (fun _ => rfl) (fun _ _ _ => rfl) (fun t => by rw [after1_2]; unfold Dat.blockOf iblk1; rw [A_eq1]; try rfl) t d
    (by unfold Dat.fetched Dat.blockOf iblk1; rw [A_eq1]; try rfl)
theorem before1_3 (c : Dev nD) (t : Fin cfg1.N) (d) : (dat1 V c).before 3 t d = iblk1 V c 3 t :=
  before1_in V c 3 rfl (fun _ => rfl) (fun _ _ _ => rfl) (fun t => by rw [after1_3]; unfold Dat.blockOf iblk1; rw [A_eq1]; try rfl) t d
    (by unfold Dat.fetched Dat.blockOf iblk1; rw [A_eq1]; try rfl)
theorem before1_4 (c : Dev nD) (t : Fin cfg1.N) (d) : (dat1 V c).before 4 t d = iblk1 V c 4 t :=
  before1_in V c 4 rfl (fun _ => rfl) (fun _ _ _ => rfl) (fun t => by rw [after1_4]; unfold Dat.blockOf iblk1; rw [A_eq1]; try rfl) t d
    (by unfold Dat.fetched Dat.blockOf iblk1; rw [A_eq1]; try rfl)
theorem before1_5 (c : Dev nD) (t : Fin cfg1.N) (d) : (dat1 V c).before 5 t d = iblk1 V c 5 t :=
  before1_in V c 5 rfl (fun _ => rfl) (fun _ _ _ => rfl) (fun t => by rw [after1_5]; unfold Dat.blockOf iblk1; rw [A_eq1]; try rfl) t d
    (by unfold Dat.fetched Dat.blockOf iblk1; rw [A_eq1]; try rfl)
theorem before1_6 (c : Dev nD) (t : Fin cfg1.N) (d) : (dat1 V c).before 6 t d = iblk1 V c 6 t :=
  before1_in V c 6 rfl (fun _ => rfl) (fun _ _ _ => rfl) (fun t => by rw [after1_6]; unfold Dat.blockOf iblk1; rw [A_eq1]; try rfl) t d
    (by unfold Dat.fetched Dat.blockOf iblk1; rw [A_eq1]; try rfl)

/-! ## The body obligation -/

/-- The memrefs not written, at a point. -/
abbrev insAt (c : Dev nD) (t : Fin cfg1.N) : sProp 𝕄 := ins (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) mv0 hmv0 c (iblk1 V c 0 t) (iblk1 V c 1 t) (iblk1 V c 2 t) (iblk1 V c 3 t) (iblk1 V c 4 t) (iblk1 V c 5 t) (iblk1 V c 6 t) (V c main_v0)
/-- The memrefs written, at a point. -/
abbrev outsAt (c : Dev nD) (t : Fin cfg1.N) (DX : Vec F S1792x3584 .bf16) (X10 : Vec F S64x3584 .f32) (X11 : Vec F S2x32x256 .f32) (X12 : Vec F S64x1792 .bf16) (X13 : Vec F S2x1792x256 .bf16)
    (ACC : Vec F S14x1792x256 .f32) (G : Vec F S2x32x1792 .f32) : sProp 𝕄 := outs mv7 hmv7 (ms1_7 t) (hs1_7 t) (ms1_8 t) (hs1_8 t) (ms1_9 t) (hs1_9 t) scM1_0 (Memref.isWhole_whole _) scM1_1 (Memref.isWhole_whole _) scM1_2 (Memref.isWhole_whole _) c DX X10 X11 X12 X13 ACC G
/-- The rest of the scratch. -/
abbrev junkAt (c : Dev nD) : sProp 𝕄 := junk (F := F) scM1_3 (Memref.isWhole_whole _) scM1_4 (Memref.isWhole_whole _) cc1_scratch5 c

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ (dat1 V c).leavesExact 7 t
    ∗ owns (c : Thread nD τ) (ms1_8 t) fullShare ((dat1 V c).after 8 t)
    ∗ (dat1 V c).leavesExact 9 t)

set_option maxHeartbeats 1000000 in
/-- What the pipeline hands the body, as the body takes it. -/
theorem pre_split (c : Dev nD) (t : Fin cfg1.N) :
    bodyPre1 V c t ⊢ iprop(∃ X10 X11 X12 X13 ACC G, ⌜StateAt V c t.val (Nat.le_of_lt t.isLt) ACC G ∧ (∃ d, X10 = (dat1 V c).before 7 t d) ∧ (∃ d, X12 = (dat1 V c).before 9 t d)⌝
      ∗ rest1 (F := F) c ∗ insAt V c t ∗ outsAt c t (dxAt V c t.val) X10 X11 X12 X13 ACC G ∗ junkAt (F := F) c) := by
  unfold bodyPre1
  simp only [before1_0, before1_1, before1_2, before1_3, before1_4, before1_5, before1_6]
  rw [Phi1_castSucc]
  unfold Dat.owesAt Pipeline.owesWithin Phi1 own1 insAt outsAt junkAt ins outs junk
  rw [show (dat1 V c).owed t.castSucc = 0 from rfl]
  rw [pts_v0, pts_v7]
  iintro ⟨⟨HR, ⟨%X13, %ACC, %G, %hst, H13, H14, H15⟩, H16, H17, HS, Hx, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iexists _, _, _, _, _, _
  isplitr
  · ipureintro
    exact ⟨hst, ⟨d7, rfl⟩, ⟨d9, rfl⟩⟩
  isplitl [HR]; · iexact HR
  isplitl [H0 H1 H2 H3 H4 H5 H6 Hx]
  · isplitl [H0]; · iapply at_of_owns; iexact H0
    isplitl [H1]; · iapply at_of_owns; iexact H1
    isplitl [H2]; · iapply at_of_owns; iexact H2
    isplitl [H3]; · iapply at_of_owns; iexact H3
    isplitl [H4]; · iapply at_of_owns; iexact H4
    isplitl [H5]; · iapply at_of_owns; iexact H5
    isplitl [H6]; · iapply at_of_owns; iexact H6
    iexact Hx
  isplitl [Hd H7 H8 H9 H13 H14 H15]
  · isplitl [Hd]; · iexact Hd
    isplitl [H7]; · iapply at_of_owns; iexact H7
    isplitl [H8]; · iapply at_of_owns; iexact H8
    isplitl [H9]; · iapply at_of_owns; iexact H9
    isplitl [H13]; · iexact H13
    isplitl [H14]; · iexact H14
    iexact H15
  isplitl [H16]; · iexact H16
  isplitl [H17]; · iexact H17
  isplitl [HS]; · iexact HS
  iexists W; iexact HW

set_option maxHeartbeats 1000000 in
/-- What the body returns, as the pipeline takes it back. -/
theorem post_join (c : Dev nD) (t : Fin cfg1.N) (DX : Vec F S1792x3584 .bf16) (X10 : Vec F S64x3584 .f32) (X12 : Vec F S64x1792 .bf16)
    (ACC : Vec F S14x1792x256 .f32) (G : Vec F S2x32x1792 .f32) (hD : DX = dxAt V c (t.val + 1)) (hst : StateAt V c (t.val + 1) t.isLt ACC G)
    (h7 : (owns (c : Thread nD τ) (ms1_7 t) fullShare X10 : sProp 𝕄) ⊢ (dat1 V c).leavesExact 7 t)
    (h9 : (owns (c : Thread nD τ) (ms1_9 t) fullShare X12 : sProp 𝕄) ⊢ (dat1 V c).leavesExact 9 t) :
    iprop(rest1 (F := F) c ∗ insAt V c t ∗ outsAt c t DX X10 (dbAt V c t) X12 (dzAt V c t) ACC G ∗ junkAt (F := F) c) ⊢ bodyPost1 V c t := by
  subst hD
  unfold bodyPost1
  rw [Phi1_succ, after1_0, after1_1, after1_2, after1_3, after1_4, after1_5, after1_6, after1_8]
  unfold Dat.owesAt Pipeline.owesWithin Phi1 own1 insAt outsAt junkAt ins outs junk
  rw [show (dat1 V c).owed t.succ = 0 from rfl]
  rw [pts_v0, pts_v7]
  iintro ⟨HR, ⟨H0, H1, H2, H3, H4, H5, H6, Hx⟩, ⟨Hd, H7, H8, H9, H13, H14, H15⟩, H16, H17, HS, ⟨%W, HW⟩⟩
  isplitl [HR H13 H14 H15 H16 H17 HS Hx Hd]
  · isplitl [HR]; · iexact HR
    isplitl [H13 H14 H15]
    · iexists _, _, _
      isplitr; · ipureintro; exact hst
      isplitl [H13]; · iexact H13
      isplitl [H14]; · iexact H14
      iexact H15
    isplitl [H16]; · iexact H16
    isplitl [H17]; · iexact H17
    isplitl [HS]; · iexact HS
    isplitl [Hx]; · iexact Hx
    iexact Hd
  isplitl [HW]
  · iexists W; isplitr; · ipureintro; exact fun _ _ => Or.inl trivial
    iexact HW
  isplitl [H0]; · iapply owns_of_at; iexact H0
  isplitl [H1]; · iapply owns_of_at; iexact H1
  isplitl [H2]; · iapply owns_of_at; iexact H2
  isplitl [H3]; · iapply owns_of_at; iexact H3
  isplitl [H4]; · iapply owns_of_at; iexact H4
  isplitl [H5]; · iapply owns_of_at; iexact H5
  isplitl [H6]; · iapply owns_of_at; iexact H6
  isplitl [H7]
  · iapply h7; iapply owns_of_at; iexact H7
  isplitl [H8]; · iapply owns_of_at; iexact H8
  iapply h9; iapply owns_of_at; iexact H9

theorem idle7 (t : Fin cfg1.N) (h : ¬ t.val = 73) : cfg1.idle 7 (cfg1.grid.coords t) = true := by
  show (!(k1_cond2 (grid1.coords t) == 1#1)) = true
  rw [beq_eq_false_iff_ne.mpr (fun e => h ((hcond2 t).mp e))]; rfl
theorem live7 (t : Fin cfg1.N) (h : t.val = 73) : cfg1.idle 7 (cfg1.grid.coords t) = false := by
  show (!(k1_cond2 (grid1.coords t) == 1#1)) = false
  rw [(hcond2 t).mpr h]; rfl
theorem noflush7 (t : Fin cfg1.N) (h : ¬ t.val = 73) : (cfg1.win 7).flush t = false :=
  Bool.eq_false_iff.mpr fun e => by have := (flush1_7 t).mp e; have := N1_lt t; omega
theorem noflush9 (t : Fin cfg1.N) (h : ¬ t.val = 73) : (cfg1.win 9).flush t = false :=
  Bool.eq_false_iff.mpr fun e => by have := (flush1_9 t).mp e; have := N1_lt t; omega

theorem idle9 (t : Fin cfg1.N) (h : ¬ t.val = 73) : cfg1.idle 9 (cfg1.grid.coords t) = true := idle7 t h

theorem leaves7_idle (c : Dev nD) (t : Fin cfg1.N) (h : ¬ t.val = 73) (d) :
    (owns (c : Thread nD τ) (ms1_7 t) fullShare ((dat1 V c).before 7 t d) : sProp 𝕄) ⊢ (dat1 V c).leavesExact 7 t := by
  rw [Dat.leavesExact_idle _ 7 t (idle7 t h) (noflush7 t h)]
  iintro H; iexists d; iexact H
theorem leaves9_idle (c : Dev nD) (t : Fin cfg1.N) (h : ¬ t.val = 73) (d) :
    (owns (c : Thread nD τ) (ms1_9 t) fullShare ((dat1 V c).before 9 t d) : sProp 𝕄) ⊢ (dat1 V c).leavesExact 9 t := by
  rw [Dat.leavesExact_idle _ 9 t (idle9 t h) (noflush9 t h)]
  iintro H; iexists d; iexact H
theorem leaves7_last (c : Dev nD) (t : Fin cfg1.N) (h : t.val = 73) :
    (owns (c : Thread nD τ) (ms1_7 t) fullShare (daEnd V c) : sProp 𝕄) ⊢ (dat1 V c).leavesExact 7 t := by
  unfold Dat.leavesExact; rw [live7 t h, after1_7]
theorem leaves9_last (c : Dev nD) (t : Fin cfg1.N) (h : t.val = 73) :
    (owns (c : Thread nD τ) (ms1_9 t) fullShare (gOut V c) : sProp 𝕄) ⊢ (dat1 V c).leavesExact 9 t := by
  unfold Dat.leavesExact; rw [show cfg1.idle 9 (cfg1.grid.coords t) = false from live7 t h, after1_9]

theorem dxAt_of_ne (c : Dev nD) {n : ℕ} (h : n ≠ 74) : dxAt V c n = V c main_v7_0 := if_neg h
theorem dxAt_end (c : Dev nD) : dxAt V c 74 = dxEnd V c := if_pos rfl

/-- A body triple between the two forms is the body's obligation. -/
theorem body_wrap {c : Dev nD} {t : Fin cfg1.N} {A R A' : sProp 𝕄} (h : A ⊢ wp frame (wpE (defs₀ (F := F)) Variants.none (c : Thread nD τ) none) Set.univ (bodyAt1 t) (fun _ => A'))
    (h' : iprop(R ∗ A') ⊢ bodyPost1 V c t) : iprop(R ∗ A) ⊢ wp frame (wpE (defs₀ (F := F)) Variants.none (c : Thread nD τ) none) Set.univ (bodyAt1 t) (fun _ => bodyPost1 V c t) :=
  (sep_mono .rfl h).trans ((wp_frame_l _ _ _).trans (wp_mono _ _ _ fun _ => h'))

set_option maxHeartbeats 1000000 in
theorem sound_body1 (c : Dev nD) (t : Fin cfg1.N) :
    bodyPre1 V c t ⊢ wp frame (wpE (defs₀ (F := F)) Variants.none (c : Thread nD τ) none) Set.univ (bodyAt1 t) (fun _ => bodyPost1 V c t) := by
  refine (pre_split V c t).trans ?_
  iintro ⟨%X10, %X11, %X12, %X13, %ACC, %G, ⟨%hst, ⟨%d7, %e7⟩, ⟨%d9, %e9⟩⟩, H⟩
  subst e7 e9
  have hN := N1_lt t
  by_cases h0 : t.val = 0
  · obtain ⟨n, hn⟩ := t
    obtain rfl : n = 0 := h0
    have h073 : ¬ (0 : ℕ) = 73 := by decide
    iapply (body_wrap V (body_first (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) mv0 hmv0 mv7 hmv7 (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) scM1_3 (Memref.isWhole_whole _) scM1_4 (Memref.isWhole_whole _) cc1_scratch5 c Variants.none none (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (V c main_v0) _ _ _ _ _ _ _ ((hcond1 ⟨0, hn⟩).mpr rfl) (fun e => absurd ((hcond2 ⟨0, hn⟩).mp e) h073))
      (post_join V c ⟨0, hn⟩ _ _ _ _ _ rfl (fun _ _ => ⟨rfl, rfl⟩) (leaves7_idle V c ⟨0, hn⟩ h073 d7) (leaves9_idle V c ⟨0, hn⟩ h073 d9)))
    iexact H
  · obtain ⟨n, hn⟩ := t
    have h0' : 0 < n := Nat.pos_of_ne_zero h0
    obtain ⟨rfl, rfl⟩ := hst h0' hN
    by_cases h73 : n = 73
    · subst h73
      iapply (body_wrap V (body_last (ms1_0 ⟨73, hn⟩) (hs1_0 ⟨73, hn⟩) (ms1_1 ⟨73, hn⟩) (hs1_1 ⟨73, hn⟩) (ms1_2 ⟨73, hn⟩) (hs1_2 ⟨73, hn⟩) (ms1_3 ⟨73, hn⟩) (hs1_3 ⟨73, hn⟩) (ms1_4 ⟨73, hn⟩) (hs1_4 ⟨73, hn⟩) (ms1_5 ⟨73, hn⟩) (hs1_5 ⟨73, hn⟩) (ms1_6 ⟨73, hn⟩) (hs1_6 ⟨73, hn⟩) mv0 hmv0 mv7 hmv7 (ms1_7 ⟨73, hn⟩) (hs1_7 ⟨73, hn⟩) (ms1_8 ⟨73, hn⟩) (hs1_8 ⟨73, hn⟩) (ms1_9 ⟨73, hn⟩) (hs1_9 ⟨73, hn⟩) scM1_0 (Memref.isWhole_whole _) scM1_1 (Memref.isWhole_whole _) scM1_2 (Memref.isWhole_whole _) scM1_3 (Memref.isWhole_whole _) scM1_4 (Memref.isWhole_whole _) cc1_scratch5 c Variants.none none (grid1.coords ⟨73, hn⟩) (iblk1 V c 0 ⟨73, hn⟩) (iblk1 V c 1 ⟨73, hn⟩) (iblk1 V c 2 ⟨73, hn⟩) (iblk1 V c 3 ⟨73, hn⟩) (iblk1 V c 4 ⟨73, hn⟩) (iblk1 V c 5 ⟨73, hn⟩) (iblk1 V c 6 ⟨73, hn⟩) (V c main_v0) _ _ _ _ _ _ _ (fun e => h0 ((hcond1 _).mp e)) ((hcond2 ⟨73, hn⟩).mpr rfl))
        (post_join V c ⟨73, hn⟩ _ _ _ _ _ (dxAt_end V c).symm (fun _ h => absurd h (Nat.lt_irrefl 74)) (leaves7_last V c ⟨73, hn⟩ rfl) (leaves9_last V c ⟨73, hn⟩ rfl)))
      iexact H
    · have hn74 : n < 74 := hN
      iapply (body_wrap V (body_mid (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) mv0 hmv0 mv7 hmv7 (ms1_7 ⟨n, hn⟩) (hs1_7 ⟨n, hn⟩) (ms1_8 ⟨n, hn⟩) (hs1_8 ⟨n, hn⟩) (ms1_9 ⟨n, hn⟩) (hs1_9 ⟨n, hn⟩) scM1_0 (Memref.isWhole_whole _) scM1_1 (Memref.isWhole_whole _) scM1_2 (Memref.isWhole_whole _) scM1_3 (Memref.isWhole_whole _) scM1_4 (Memref.isWhole_whole _) cc1_scratch5 c Variants.none none (grid1.coords ⟨n, hn⟩) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (iblk1 V c 6 ⟨n, hn⟩) (V c main_v0) _ _ _ _ _ _ _ (fun e => h0 ((hcond1 _).mp e)) (fun e => h73 ((hcond2 _).mp e)))
        (post_join V c ⟨n, hn⟩ _ _ _ _ _ ((dxAt_of_ne V c (show n ≠ 74 by omega)).trans (dxAt_of_ne V c (show n + 1 ≠ 74 by omega)).symm) (fun _ _ => ⟨rfl, rfl⟩) (leaves7_idle V c ⟨n, hn⟩ h73 d7) (leaves9_idle V c ⟨n, hn⟩ h73 d9)))
      iexact H

/-- The body table's row at a point is the body. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Gen

end
-- ==== Proof.K.Run.lean ====
/- The run of the whole program: what every buffer holds at each boundary between its parts, and at the end. -/
module

public import proofs.«01_k».proof.Proof.Slabs
public import proofs.«01_k».proof.Proof.Gen.Kernel.Launch
public import proofs.«01_k».proof.Proof.Gen.Kernel.Skeleton
public import proofs.«01_k».proof.Proof.Gen.Kernel.Points
public import proofs.«01_k».proof.Proof.K.Region0
public import proofs.«01_k».proof.Proof.K.Region1
public import Idealize.ShloMosaic.Lib.Pipeline.Frame
public import Idealize.ShloMosaic.Lib.Pipeline.Regions
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [BitOps F]

local notation "𝕄" => MT nD τ sig Unit (Elt F) ℕ (Pipeline.UD sig nD τ) ℕ

-- the memory and the generator registers at launch
variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9, main_v10, main_v11, main_v12, main_v13, main_v14]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the main region's exit: its arrays at what the pipeline leaves, the array the body writes itself at the input's
    gradient, every other buffer as entered. -/
def W3 (c : Dev nD) : Valuation τ sig (Elt F) :=
  Function.update (Pipeline.withArrays spec1 c (W2 m ρ c) fun w => (dat1 (V2 m ρ) c).arrAt w cfg1.N)
    (Proc.devRef .tc main_v7_0) (dxEnd (V2 m ρ) c)
theorem W3_dx (c : Dev nD) : W3 m ρ c (Proc.devRef .tc main_v7_0) = dxEnd (V2 m ρ) c := by
  unfold W3; exact Function.update_self ..
theorem W3_ne_dx (c : Dev nD) (b : Ref sig .tc) (h : b ≠ main_v7_0) : W3 m ρ c (Proc.devRef .tc b)
    = Pipeline.withArrays spec1 c (W2 m ρ c) (fun w => (dat1 (V2 m ρ) c).arrAt w cfg1.N) (Proc.devRef .tc b) := by
  unfold W3; exact Function.update_of_ne (fun e => h (Proc.devRef_injective _ e)) ..
theorem arr_ne_dx : ∀ w : Fin cfg1.W, Pipeline.arrRef spec1 w ≠ main_v7_0 := by decide
theorem W3_arr (c : Dev nD) (w : Fin cfg1.W) :
    W3 m ρ c (Proc.devRef .tc (Pipeline.arrRef spec1 w)) = (dat1 (V2 m ρ) c).arrAt w cfg1.N :=
  (W3_ne_dx m ρ c _ (arr_ne_dx w)).trans (Pipeline.withArrays_arr spec1 launch1.win.arr_inj c _ _ w)
theorem W3_of_ne (c : Dev nD) (b : Ref sig .tc) (hb : ∀ w, Pipeline.arrRef spec1 w ≠ b) (h : b ≠ main_v7_0) :
    W3 m ρ c (Proc.devRef .tc b) = W2 m ρ c (Proc.devRef .tc b) :=
  (W3_ne_dx m ρ c b h).trans (Pipeline.withArrays_of_ne spec1 c _ _ b hb)
/-- A reference that is none of the main region's output arrays keeps its entry contents across it. -/
theorem W3_of (c : Dev nD) (r : Ref sig .tc) (h : ∀ w : Fin cfg1.W, Pipeline.arrRef spec1 w = r → (cfg1.win w).isOut = false) (h' : r ≠ main_v7_0) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r (fun w e => hw ⟨w, e⟩) h'
theorem args_ne_dx : ∀ a ∈ argRefs, a ≠ main_v7_0 := ListAll.forall_mem_of_all_decide (by decide +kernel)
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha) (args_ne_dx a ha)).trans (W2_args m ρ c a ha)
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-- An unscoped buffer that is neither an array of the main region nor copied by its body is left as entered. -/
theorem rest_same (c : Dev nD) (b : Ref sig .tc) (hb : b ∈ Pipeline.restRefs sig spec1 \ H1) : V3 m ρ c b = V2 m ρ c b := by
  obtain ⟨h1, h2⟩ := Finset.mem_sdiff.mp hb
  refine W3_of_ne m ρ c b (fun w e => ?_) (fun e => h2 (by rw [e]; decide))
  subst e
  exact absurd h1 ((by decide : ∀ w : Fin cfg1.W, Pipeline.arrRef spec1 w ∉ Pipeline.restRefs sig spec1) w)

section Enter
variable (V : (c : Dev nD) → (b : Ref sig .tc) → Buf (Elt F) ((c : Thread nD τ).loc b))

theorem at_sc0 (c : Dev nD) (X : Vec F S2x1792x256 .bf16) : (at_ (F := F) c scM1_0 (Memref.isWhole_whole _) X : sProp 𝕄) = (((c : Thread nD τ).loc cc1_scratch0) ↦{fullShare} X) := at_whole c cc1_scratch0 X
theorem at_sc1 (c : Dev nD) (X : Vec F S14x1792x256 .f32) : (at_ (F := F) c scM1_1 (Memref.isWhole_whole _) X : sProp 𝕄) = (((c : Thread nD τ).loc cc1_scratch1) ↦{fullShare} X) := at_whole c cc1_scratch1 X
theorem at_sc2 (c : Dev nD) (X : Vec F S2x32x1792 .f32) : (at_ (F := F) c scM1_2 (Memref.isWhole_whole _) X : sProp 𝕄) = (((c : Thread nD τ).loc cc1_scratch2) ↦{fullShare} X) := at_whole c cc1_scratch2 X
theorem at_sc3 (c : Dev nD) (X : Vec F S256x3584 .bf16) : (at_ (F := F) c scM1_3 (Memref.isWhole_whole _) X : sProp 𝕄) = (((c : Thread nD τ).loc cc1_scratch3) ↦{fullShare} X) := at_whole c cc1_scratch3 X
theorem at_sc4 (c : Dev nD) (X : Vec F S256x3584 .bf16) : (at_ (F := F) c scM1_4 (Memref.isWhole_whole _) X : sProp 𝕄) = (((c : Thread nD τ).loc cc1_scratch4) ↦{fullShare} X) := at_whole c cc1_scratch4 X

/-- The invariant at the first point, from what the region is entered with. -/
theorem phi1_enter (c : Dev nD) : iprop((∃ r, prngReg c r)
      ∗ Pipeline.ownSems0 (Ix := Unit) (Name := ℕ) (U := Pipeline.UD sig nD τ) (Lvl := ℕ) (Val := Elt F) (τ := τ) osem1 c
      ∗ (bigSep H1 fun b => (((c : Thread nD τ)).loc b) ↦{fullShare} V c b)
      ∗ Pipeline.scopedRest (Ix := Unit) (Name := ℕ) (U := Pipeline.UD sig nD τ) (Lvl := ℕ) (Val := Elt F) spec1 c)
    ⊢ (Phi1 V c 0 (Nat.zero_le _) : sProp 𝕄) := by
  rw [scopedRest1_eq, H1_eq, ownSems01_eq]
  unfold Phi1 own1 rest1 StateAt
  simp only [at_sc0, at_sc1, at_sc2, at_sc3, at_sc4]
  rw [dxAt_of_ne V c (by decide : (0 : ℕ) ≠ 74)]
  iintro ⟨Hp, Ho, ⟨Hx, Hd⟩, A0, A1, A2, A3, A4, ⟨%f0, S0⟩, ⟨%f1, S1⟩, ⟨%f2, S2⟩, S3, S4⟩
  isplitl [Hp A0 A1 A2 A3 A4]
  · isplitl [A0]; · iexact A0
    isplitl [A1]; · iexact A1
    isplitl [A2]; · iexact A2
    isplitl [A3]; · iexact A3
    isplitl [A4]; · iexact A4
    iexact Hp
  isplitl [S0 S1 S2]
  · iexists f0, f1, f2
    isplitr; · ipureintro; exact fun h => absurd h (Nat.lt_irrefl 0)
    isplitl [S0]; · iexact S0
    isplitl [S1]; · iexact S1
    iexact S2
  isplitl [S3]; · iexact S3
  isplitl [S4]; · iexact S4
  isplitl [Ho]; · iexact Ho
  isplitl [Hx]; · iexact Hx
  iexact Hd

/-- What the region is left with, from the invariant after the last point. -/
theorem phi1_leave (V' : (c : Dev nD) → (b : Ref sig .tc) → Buf (Elt F) ((c : Thread nD τ).loc b)) (c : Dev nD)
    (hx : V' c main_v0 = V c main_v0) (hd : V' c main_v7_0 = dxEnd V c) :
    (Phi1 V c cfg1.N (le_refl _) : sProp 𝕄) ⊢ iprop((∃ r, prngReg c r)
      ∗ Pipeline.ownSems0 (Ix := Unit) (Name := ℕ) (U := Pipeline.UD sig nD τ) (Lvl := ℕ) (Val := Elt F) (τ := τ) osem1 c
      ∗ (bigSep H1 fun b => (((c : Thread nD τ)).loc b) ↦{fullShare} V' c b)
      ∗ Pipeline.scopedRest (Ix := Unit) (Name := ℕ) (U := Pipeline.UD sig nD τ) (Lvl := ℕ) (Val := Elt F) spec1 c) := by
  rw [scopedRest1_eq, H1_eq, ownSems01_eq, hx, hd]
  unfold Phi1 own1 rest1
  simp only [at_sc0, at_sc1, at_sc2, at_sc3, at_sc4]
  rw [show dxAt V c cfg1.N = dxEnd V c from if_pos N_1]
  iintro ⟨⟨A0, A1, A2, A3, A4, Hp⟩, ⟨%f0, %f1, %f2, -, S0, S1, S2⟩, S3, S4, Ho, Hx, Hd⟩
  isplitl [Hp]; · iexact Hp
  isplitl [Ho]; · iexact Ho
  isplitl [Hx Hd]
  · isplitl [Hx]; · iexact Hx
    iexact Hd
  isplitl [A0]; · iexact A0
  isplitl [A1]; · iexact A1
  isplitl [A2]; · iexact A2
  isplitl [A3]; · iexact A3
  isplitl [A4]; · iexact A4
  isplitl [S0]; · iexists f0; iexact S0
  isplitl [S1]; · iexists f1; iexact S1
  isplitl [S2]; · iexists f2; iexact S2
  isplitl [S3]; · iexact S3
  iexact S4

end Enter

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The main region over the thread state: its arrays and the arrays its body copies from and to split out of the unscoped
    buffers and put back; the generator register and the kernel's own semaphore in and out; nothing owed. -/
def reg1 : Pipeline.RegionSeg (pcfgs (F := F)) adm (pdats m ρ) () defs₀ 𝒱₀ L lv 1 where
  win := launch1.win.to₀
  block_pos := launch1.block_pos
  stage_whole := launch1.stage_whole
  K := Fin 1
  osem := osem1
  ho := ownSemFacts1
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V2 m ρ c b))
  Y c := iprop((∃ r, prngReg c r) ∗ (bigSep H1 fun b => (((c : Thread nD τ)).loc b) ↦{fullShare} V3 m ρ c b))
  Z c := bigSep (Pipeline.restRefs sig spec1 \ H1) fun b => (((c : Thread nD τ)).loc b) ↦{fullShare} V2 m ρ c b
  hentry c := by
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    have hH : (Pipeline.unscopedRest (Ix := Unit) (Name := ℕ) (U := Pipeline.UD sig nD τ) (Lvl := ℕ) spec1 c (V2 m ρ c) : sProp 𝕄)
        = iprop((bigSep H1 fun b => (((c : Thread nD τ)).loc b) ↦{fullShare} V2 m ρ c b) ∗ (bigSep (Pipeline.restRefs sig spec1 \ H1) fun b => (((c : Thread nD τ)).loc b) ↦{fullShare} V2 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 1 c).Φ 0 = Phi1 (V2 m ρ) c 0 (Nat.zero_le _) from rfl]
    iintro ⟨⟨Hp, Ho, HH⟩, -, Hr⟩
    iapply (phi1_enter (V2 m ρ) c)
    isplitl [Hp]; · iexact Hp
    isplitl [Ho]; · iexact Ho
    isplitl [HH]; · iexact HH
    iexact Hr
  hout c := by
    rw [show (pdats m ρ 1 c).Φ (Fin.last _) = Phi1 (V2 m ρ) c cfg1.N (le_refl _) from rfl]
    iintro H
    ihave H' := (phi1_leave (V2 m ρ) (V3 m ρ) c (W3_of m ρ c main_v0 (by decide) (by decide)) (W3_dx m ρ c)) $$ H
    icases H' with ⟨Hp, Ho, HH, Hr⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V3 m ρ c) ((pdats m ρ 1 c).arrAt · cfg1.N) (hF1 m ρ c) (fun _ _ => rfl)
    rw [Pipeline.unscopedBufs_held] at hjoin
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V2 m ρ c b)) := by
      unfold Pipeline.unscopedRest; rw [BI.bigSep_sdiff_split H1_sub]
      exact congrArg _ (BI.bigSep_congr fun b hb => by rw [rest_same m ρ c b hb])
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution of the program terminates, nothing faulting, and every final
    state has each unscoped buffer at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    have ha : ∀ a ∈ argRefs, ¬ (Proc.devRef .tc a : DevRef τ sig).isScoped → r.2.mem ((c.tc : Thread nD τ).loc a) = m ((c.tc : Thread nD τ).loc a) :=
      fun a ha hs => (h.1 c _ (mem_uc a hs)).trans (W4_args m ρ c a ha)
    ⟨ha main_arg0 (by decide) (by decide), ha main_arg1 (by decide) (by decide), ha main_arg2 (by decide) (by decide), ha main_arg3 (by decide) (by decide), ha main_arg4 (by decide) (by decide), ha main_arg5 (by decide) (by decide), ha main_arg6 (by decide) (by decide)⟩, h.2⟩) (run m ρ)

end Cert.Kernel.Gen

end
-- ==== Proof.KI.Region0.lean ====
/- The first kernel of the program: one product per block of rows, run by the pipeline. -/
module

public import proofs.«01_k».proof.Proof.Slabs
public import proofs.«01_k».proof.Proof.Gen.KernelIdeal.Launch
public import proofs.«01_k».proof.Proof.Gen.KernelIdeal.Skeleton
public import proofs.«01_k».proof.Proof.Gen.KernelIdeal.Points

public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! # REGION 0 of @main: custom_call 0, `cc0_xa` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x3584 := Rect.unit (s := S64x3584) ![0, 0] S64x3584.size inb_S64x3584_S64x3584_0_0
abbrev r0_1 : Rect S256x3584 := Rect.unit (s := S256x3584) ![0, 0] S256x3584.size inb_S256x3584_S256x3584_0_0
abbrev r0_2 : Rect S64x256 := Rect.unit (s := S64x256) ![0, 0] S64x256.size inb_S64x256_S64x256_0_0

/-! ## What the body leaves in each output window's buffer -/

/-- Window 2's staging buffer after the body, from the input windows' blocks: its 1 store as pieces, LAST
    FIRST. -/
def out0_2 (x0 : Vec F S64x3584 .bf16) (x1 : Vec F S256x3584 .bf16) : Vec F S64x256 .bf16 :=
  View.canon [⟨r0_2, k0_pay1 (View.ld x0 r0_0) (View.ld x1 r0_1)⟩]

/-- Its stores tile the buffer (checked by evaluation), so they cover it. -/
theorem cover0_2 (p0 : Vec F S64x256 .bf16) (y : S64x256.Idx) :
    ∃ pc ∈ ([⟨r0_2, p0⟩] : List (View.Piece (Elt F) S64x256 .bf16)), y ∈ pc.1.set :=
  View.cover_of_tiled [⟨r0_2, p0⟩] S64x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x3584 .bf16) (harg1 : arg1.IsWhole) (arg2 : Memref sig .tc .vmem S256x3584 .bf16) (harg2 : arg2.IsWhole) (arg3 : Memref sig .tc .vmem S64x256 .bf16) (harg3 : arg3.IsWhole)
    (x0 : Vec F S64x3584 .bf16) (x1 : Vec F S256x3584 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_xa i arg1 harg1 arg2 harg2 arg3 harg3) K := by
  simp only [cc0_xa_eq_skeleton]; unfold cc0_xa_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.KI.Maps.lean ====
/- What the kernel's stores leave, as plain functions of the values they read: the cotangents of the two
   projections, the accumulator of the input gradient, the projected cotangents, and the last grid point's results. -/
module

public import proofs.«01_k».proof.Proof.Slabs
public import proofs.«01_k».proof.Proof.Gen.KernelIdeal.Launch
public import proofs.«01_k».proof.Proof.Gen.KernelIdeal.Skeleton
public import proofs.«01_k».proof.Proof.Gen.KernelIdeal.Points

public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [FloatOps F]

local notation "𝕄" => MT nD τ sig Unit (Elt F) ℕ (Pipeline.UD sig nD τ) ℕ

/-! ## Windows of the operands -/

theorem inb_acc (i : Fin 14) : ∀ a, (![i.val, 0, 0] : Fin 3 → ℕ) a + S1x1792x256.size a ≤ S14x1792x256.size a :=
  forall_fin3.2 ⟨by show i.val + 1 ≤ 14; omega, Nat.le_refl _, Nat.le_refl _⟩
theorem inb_z (c : Fin 28) : ∀ a, (![64 * c.val, 0, 0] : Fin 3 → ℕ) a + S64x2x256.size a ≤ S1792x2x256.size a :=
  forall_fin3.2 ⟨by show 64 * c.val + 64 ≤ 1792; omega, Nat.le_refl _, Nat.le_refl _⟩
theorem inb_dh (c : Fin 28) : ∀ a, (![64 * c.val, 0] : Fin 2 → ℕ) a + S64x256.size a ≤ S1792x256.size a :=
  forall_fin2.2 ⟨by show 64 * c.val + 64 ≤ 1792; omega, Nat.le_refl _⟩
theorem inb_w (p : Fin 2) (i : Fin 14) : ∀ a, (![p.val, 128 * i.val, 0] : Fin 3 → ℕ) a + S1x128x256.size a ≤ S2x1792x256.size a :=
  forall_fin3.2 ⟨by show p.val + 1 ≤ 2; omega, by show 128 * i.val + 128 ≤ 1792; omega, Nat.le_refl _⟩
theorem inb_s (i : Fin 14) (h p : Fin 2) : ∀ a, (![2 * i.val + h.val, p.val, 0] : Fin 3 → ℕ) a + S1x1x256.size a ≤ S28x2x256.size a :=
  forall_fin3.2 ⟨by show 2 * i.val + h.val + 1 ≤ 28; omega, by show p.val + 1 ≤ 2; omega, Nat.le_refl _⟩
theorem inb_dz (p : Fin 2) : ∀ a, (![p.val, 0, 0] : Fin 3 → ℕ) a + S1x1792x256.size a ≤ S2x1792x256.size a :=
  forall_fin3.2 ⟨by show p.val + 1 ≤ 2; omega, Nat.le_refl _, Nat.le_refl _⟩
theorem inb_g (p : Fin 2) : ∀ a, (![p.val, 0, 0] : Fin 3 → ℕ) a + S1x32x1792.size a ≤ S2x32x1792.size a :=
  forall_fin3.2 ⟨by show p.val + 1 ≤ 2; omega, Nat.le_refl _, Nat.le_refl _⟩
theorem inb_b (p : Fin 2) : ∀ a, (![p.val, 0, 0] : Fin 3 → ℕ) a + S1x32x256.size a ≤ S2x32x256.size a :=
  forall_fin3.2 ⟨by show p.val + 1 ≤ 2; omega, Nat.le_refl _, Nat.le_refl _⟩
theorem inb_xa (p : Fin 2) : ∀ a, (![32 * p.val, 0] : Fin 2 → ℕ) a + S32x1792.size a ≤ S64x1792.size a :=
  forall_fin2.2 ⟨by show 32 * p.val + 32 ≤ 64; omega, Nat.le_refl _⟩
theorem inb_at (i : Fin 14) : ∀ a, (![0, 256 * i.val] : Fin 2 → ℕ) a + S64x256.size a ≤ S64x3584.size a :=
  forall_fin2.2 ⟨Nat.le_refl _, by show 256 * i.val + 256 ≤ 3584; omega⟩
theorem inb_rows (k : Fin 7) : ∀ a, (![256 * k.val, 0] : Fin 2 → ℕ) a + S256x3584.size a ≤ S1792x3584.size a :=
  forall_fin2.2 ⟨by show 256 * k.val + 256 ≤ 1792; omega, Nat.le_refl _⟩
theorem inb_gt (k : Fin 7) : ∀ a, (![0, 0, 256 * k.val] : Fin 3 → ℕ) a + S2x32x256.size a ≤ S2x32x1792.size a :=
  forall_fin3.2 ⟨Nat.le_refl _, Nat.le_refl _, by show 256 * k.val + 256 ≤ 1792; omega⟩
theorem inb_at2 (j : Fin 14) (k : Fin 7) : ∀ a, (![j.val, 256 * k.val, 0] : Fin 3 → ℕ) a + S1x256x256.size a ≤ S14x1792x256.size a :=
  forall_fin3.2 ⟨by show j.val + 1 ≤ 14; omega, by show 256 * k.val + 256 ≤ 1792; omega, Nat.le_refl _⟩

/-- Slab `i` of the accumulator. -/
def accSlab (x : Vec F S14x1792x256 .f32) (i : Fin 14) : Vec F S1x1792x256 .f32 := VecWindow.window x ![i.val, 0, 0] S1x1792x256.size (inb_acc i)
/-- Rows `64 c …` of the interleaved projections. -/
def zRows (z : Vec F S1792x2x256 .bf16) (c : Fin 28) : Vec F S64x2x256 .bf16 := VecWindow.window z ![64 * c.val, 0, 0] S64x2x256.size (inb_z c)
/-- Rows `64 c …` of the cotangent. -/
def dhRows (x : Vec F S1792x256 .bf16) (c : Fin 28) : Vec F S64x256 .bf16 := VecWindow.window x ![64 * c.val, 0] S64x256.size (inb_dh c)
/-- The packed rows of weight `p` under output tile `i`. -/
def wBytes (w : Vec F S2x1792x256 .i8) (p : Fin 2) (i : Fin 14) : Vec F S1x128x256 .i8 := VecWindow.window w ![p.val, 128 * i.val, 0] S1x128x256.size (inb_w p i)
/-- The scales of half `h` of output tile `i` of weight `p`. -/
def wScale (s : Vec F S28x2x256 .bf16) (i : Fin 14) (h p : Fin 2) : Vec F S1x1x256 .bf16 := VecWindow.window s ![2 * i.val + h.val, p.val, 0] S1x1x256.size (inb_s i h p)
/-- Projection `p` of the cotangents. -/
def dzHalf (x : Vec F S2x1792x256 .bf16) (p : Fin 2) : Vec F S1x1792x256 .bf16 := VecWindow.window x ![p.val, 0, 0] S1x1792x256.size (inb_dz p)
/-- Projection `p` of the projected cotangents. -/
def gHalf (x : Vec F S2x32x1792 .f32) (p : Fin 2) : Vec F S1x32x1792 .f32 := VecWindow.window x ![p.val, 0, 0] S1x32x1792.size (inb_g p)
/-- Projection `p` of the low-rank factor. -/
def bHalf (x : Vec F S2x32x256 .bf16) (p : Fin 2) : Vec F S1x32x256 .bf16 := VecWindow.window x ![p.val, 0, 0] S1x32x256.size (inb_b p)
/-- The rows of `xa` of projection `p`. -/
def xaHalf (x : Vec F S64x1792 .bf16) (p : Fin 2) : Vec F S32x1792 .bf16 := VecWindow.window x ![32 * p.val, 0] S32x1792.size (inb_xa p)
/-- Columns `256 i …` of the other low-rank factor. -/
def atCols (x : Vec F S64x3584 .bf16) (i : Fin 14) : Vec F S64x256 .bf16 := VecWindow.window x ![0, 256 * i.val] S64x256.size (inb_at i)
/-- Rows `256 k …` of an activation matrix. -/
def tileRows (x : Vec F S1792x3584 .bf16) (k : Fin 7) : Vec F S256x3584 .bf16 := VecWindow.window x ![256 * k.val, 0] S256x3584.size (inb_rows k)
/-- Columns `256 k …` of the projected cotangents. -/
def gCols (x : Vec F S2x32x1792 .f32) (k : Fin 7) : Vec F S2x32x256 .f32 := VecWindow.window x ![0, 0, 256 * k.val] S2x32x256.size (inb_gt k)
/-- Rows `256 k …` of slab `j` of the accumulator. -/
def accTile (x : Vec F S14x1792x256 .f32) (j : Fin 14) (k : Fin 7) : Vec F S1x256x256 .f32 := VecWindow.window x ![j.val, 256 * k.val, 0] S1x256x256.size (inb_at2 j k)

/-! ## What one grid point computes -/

theorem row_div {r : ℕ} (h : r < 1792) : r / 64 < 28 := by omega
theorem row_mod (r : ℕ) : r % 64 < 64 := Nat.mod_lt _ (by decide)

/-- The cotangents of the two projections: projection 1 from the gate alone, projection 0 through the gate's derivative. -/
def dzOf (dh : Vec F S1792x256 .bf16) (z : Vec F S1792x2x256 .bf16) : Vec F S2x1792x256 .bf16 := fun y =>
  if (y 0).val = 1 then k1_pay35 (zRows z ⟨(y 1).val / 64, row_div (y 1).isLt⟩) (dhRows dh ⟨(y 1).val / 64, row_div (y 1).isLt⟩) (ix3 0 ⟨(y 1).val % 64, row_mod _⟩ (y 2))
  else k1_pay36 (zRows z ⟨(y 1).val / 64, row_div (y 1).isLt⟩) (dhRows dh ⟨(y 1).val / 64, row_div (y 1).isLt⟩) (ix3 0 ⟨(y 1).val % 64, row_mod _⟩ (y 2))

/-- Slab `i` of the accumulator after a point adds the two products with the unpacked weights. -/
def accPay (w : Vec F S2x1792x256 .i8) (s : Vec F S28x2x256 .bf16) (dz : Vec F S2x1792x256 .bf16) (i : Fin 14) (a : Vec F S1x1792x256 .f32) : Vec F S1x1792x256 .f32 :=
  k1_pay37 (k1_pay12 k1_pay10 (k1_pay11 (wBytes w 0 i) (wScale s i 0 0) (wScale s i 1 0)) (dzHalf dz 0))
    (k1_pay13 (wBytes w 1 i) (wScale s i 0 1) (wScale s i 1 1)) (k1_pay14 (dzHalf dz 1)) a

/-- The accumulator after a point. -/
def accNext (w : Vec F S2x1792x256 .i8) (s : Vec F S28x2x256 .bf16) (dz : Vec F S2x1792x256 .bf16) (acc : Vec F S14x1792x256 .f32) : Vec F S14x1792x256 .f32 := fun y =>
  accPay w s dz (y 0) (accSlab acc (y 0)) (ix3 0 (y 1) (y 2))

/-- The accumulator before the first point. -/
def accZero : Vec F S14x1792x256 .f32 := fun y => k1_pay31 (ix3 0 (y 1) (y 2))

/-- The projected cotangents after a point. -/
def gNext (b : Vec F S2x32x256 .bf16) (dz : Vec F S2x1792x256 .bf16) (g : Vec F S2x32x1792 .f32) : Vec F S2x32x1792 .f32 := fun y =>
  if (y 0).val = 0 then k1_pay38 (gHalf g 0) (bHalf b 0) (dzHalf dz 0) (ix3 0 (y 1) (y 2))
  else k1_pay2 (gHalf g 1) (bHalf b 1) (dzHalf dz 1) (ix3 0 (y 1) (y 2))

/-- A point's block of the gradient of the low-rank factor. -/
def dbOf (xa : Vec F S64x1792 .bf16) (dz : Vec F S2x1792x256 .bf16) : Vec F S2x32x256 .f32 := fun y =>
  if (y 0).val = 0 then k1_pay1 (k1_pay39 (xaHalf xa 0) (dzHalf dz 0)) (ix3 0 (y 1) (y 2))
  else k1_pay3 (xaHalf xa 1) (dzHalf dz 1) (ix3 0 (y 1) (y 2))

/-! ## What the last point adds -/

/-- The accumulator after the low-rank term is added. -/
def accLast (g : Vec F S2x32x1792 .f32) (am : Vec F S64x3584 .bf16) (acc : Vec F S14x1792x256 .f32) : Vec F S14x1792x256 .f32 := fun y =>
  k1_pay5 g (accSlab acc (y 0)) (atCols am (y 0)) (ix3 0 (y 1) (y 2))

/-- The gradient of the other low-rank factor after the first `k` row tiles. -/
def daUpto (g : Vec F S2x32x1792 .f32) (x : Vec F S1792x3584 .bf16) : ℕ → Vec F S64x3584 .f32
  | 0 => k1_pay6
  | k + 1 => if h : k < 7 then k1_pay15 (gCols g ⟨k, h⟩) (daUpto g x k) (tileRows x ⟨k, h⟩) else daUpto g x k

/-- The gradient of the input: the accumulator's slabs side by side. -/
def dxOf (acc : Vec F S14x1792x256 .f32) : Vec F S1792x3584 .bf16 := fun y =>
  k1_pay19 (accTile acc ⟨(y 1).val / 256, by have : (y 1).val < 3584 := (y 1).isLt; omega⟩ ⟨(y 0).val / 256, by have : (y 0).val < 1792 := (y 0).isLt; omega⟩)
    (ix2 ⟨(y 0).val % 256, Nat.mod_lt _ (by decide)⟩ ⟨(y 1).val % 256, Nat.mod_lt _ (by decide)⟩)

end Cert.KernelIdeal.Gen

end
-- ==== Proof.KI.Trips.lean ====
/- One trip of each of the kernel's counted loops, on buffers held at named values. -/
module

public import proofs.«01_k».proof.Proof.Slabs
public import proofs.«01_k».proof.Proof.Gen.KernelIdeal.Launch
public import proofs.«01_k».proof.Proof.Gen.KernelIdeal.Skeleton
public import proofs.«01_k».proof.Proof.Gen.KernelIdeal.Points
public import proofs.«01_k».proof.Proof.KI.Maps
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [FloatOps F]

local notation "𝕄" => MT nD τ sig Unit (Elt F) ℕ (Pipeline.UD sig nD τ) ℕ

variable (arg1 : Memref sig .tc .vmem S1792x256 .bf16) (harg1 : arg1.IsWhole) (arg2 : Memref sig .tc .vmem S1792x2x256 .bf16) (harg2 : arg2.IsWhole)
  (arg3 : Memref sig .tc .vmem S2x1792x256 .i8) (harg3 : arg3.IsWhole) (arg4 : Memref sig .tc .vmem S28x2x256 .bf16) (harg4 : arg4.IsWhole)
  (arg5 : Memref sig .tc .vmem S2x32x256 .bf16) (harg5 : arg5.IsWhole) (arg6 : Memref sig .tc .vmem S64x1792 .bf16) (harg6 : arg6.IsWhole)
  (arg7 : Memref sig .tc .vmem S64x3584 .bf16) (harg7 : arg7.IsWhole) (arg8 : Memref sig .tc .hbm S1792x3584 .bf16) (harg8 : arg8.IsWhole)
  (arg9 : Memref sig .tc .hbm S1792x3584 .bf16) (harg9 : arg9.IsWhole) (arg10 : Memref sig .tc .vmem S64x3584 .f32) (harg10 : arg10.IsWhole)
  (arg11 : Memref sig .tc .vmem S2x32x256 .f32) (harg11 : arg11.IsWhole) (arg12 : Memref sig .tc .vmem S64x1792 .bf16) (harg12 : arg12.IsWhole)
  (arg13 : Memref sig .tc .vmem S2x1792x256 .bf16) (harg13 : arg13.IsWhole) (arg14 : Memref sig .tc .vmem S14x1792x256 .f32) (harg14 : arg14.IsWhole)
  (arg15 : Memref sig .tc .vmem S2x32x1792 .f32) (harg15 : arg15.IsWhole) (arg16 : Memref sig .tc .vmem S256x3584 .bf16) (harg16 : arg16.IsWhole)
  (arg17 : Memref sig .tc .vmem S256x3584 .bf16) (harg17 : arg17.IsWhole) (arg18 : DmaSems sig S_)

variable (c : Dev nD) (𝒱 : Variants) (bd : Option 𝒱.V) (E : Set ℕ) (i : grid1.Coords)

/-- A whole memref at some values. -/
abbrev at_ {sp : Space} {s : Shape} {e : EltTy} (a : Memref sig .tc sp s e) (h : a.IsWhole) (x : s.Idx → Elt F e) : sProp 𝕄 :=
  a.view.loc (c : Thread nD τ) ↦[a.view.set]{fullShare} h.unread x

/-- A whole memref at contents that read the values is at the values. -/
theorem at_of {sp : Space} {s : Shape} {e : EltTy} (a : Memref sig .tc sp s e) (h : a.IsWhole) (x : s.Idx → Elt F e) :
    iprop(∃ f, (a.view.loc (c : Thread nD τ) ↦[a.view.set]{fullShare} f) ∗ ⌜a.view.read (Elt F) f = x⌝) ⊢ at_ (F := F) c a h x := by
  iintro ⟨%f, H, %e⟩
  rw [h.eq_unread e]
  iexact H

/-- A load of a whole memref at some values reads a window of the values. -/
theorem rd {sp : Space} {s : Shape} {e : EltTy} {a : Memref sig .tc sp s e} (h : a.IsWhole) (x : s.Idx → Elt F e) {off off' size : Fin s.rank → ℕ}
    (inb : ∀ a, off a + size a ≤ s.size a) (ho : off = off') (inb' : ∀ a, off' a + size a ≤ s.size a) :
    View.readAt (Elt F) a.view (Rect.unit off size inb).toLoadRect (h.unread x) = VecWindow.window x off' size inb' := by
  rw [View.readAt_unit _ _ _ ho inb', h.read_unread]

/-- A memref read after its slice is overwritten. -/
theorem read_slice_store {sp : Space} {s : Shape} {e : EltTy} (a : Memref sig .tc sp s e) {off off' size : Fin s.rank → ℕ}
    (inb : ∀ a, off a + size a ≤ s.size a) (hs : ∀ b, (Rect.unit off size inb).stride b = 1) (ho : off = off') (f : a.view.ty.Contents (Elt F))
    (w : (Rect.unit off size inb).shape.Idx → Elt F e) :
    a.view.read (Elt F) (View.write (Elt F) (a.slice (Rect.unit off size inb) hs).view f w Finset.univ) = VecWindow.put (a.view.read (Elt F) f) off' size w := by
  refine Eq.trans ?_ ((View.read_writes_cons_put a.view f inb w [] ho).trans ?_)
  · rfl
  · rw [View.writes_nil]

/-- The slab of a position of the accumulator. -/
def slabOf (y : S14x1792x256.Idx) : ℕ := (y 0).val

theorem slab_iff (k : ℕ) (y : S14x1792x256.Idx) :
    (∀ a, (![k, 0, 0] : Fin 3 → ℕ) a ≤ (y a).val ∧ (y a).val < (![k, 0, 0] : Fin 3 → ℕ) a + S1x1792x256.size a) ↔ slabOf y = k := by
  have h1 : (y 1).val < 1792 := (y 1).isLt
  have h2 : (y 2).val < 256 := (y 2).isLt
  constructor
  · intro h
    have h0 : k ≤ (y 0).val ∧ (y 0).val < k + 1 := h 0
    show (y 0).val = k
    omega
  · intro h
    have h0 : (y 0).val = k := h
    exact forall_fin3.2 ⟨⟨by show k ≤ (y 0).val; omega, by show (y 0).val < k + 1; omega⟩,
      ⟨Nat.zero_le _, by show (y 1).val < 0 + 1792; omega⟩, ⟨Nat.zero_le _, by show (y 2).val < 0 + 256; omega⟩⟩

/-- A position's place within slab `k`. -/
theorem slab_local (k : ℕ) (y : S14x1792x256.Idx)
    (h : ∀ a, (![k, 0, 0] : Fin 3 → ℕ) a ≤ (y a).val ∧ (y a).val < (![k, 0, 0] : Fin 3 → ℕ) a + S1x1792x256.size a) :
    @Eq S1x1792x256.Idx (Rect.unitLocal (s := S14x1792x256) (off := ![k, 0, 0]) (size := S1x1792x256.size) y h) (ix3 (0 : Fin 1) (y 1 : Fin 1792) (y 2 : Fin 256)) := by
  have h0 : k ≤ (y 0).val ∧ (y 0).val < k + 1 := h 0
  funext a
  match a with
  | 0 => exact Fin.ext (by show (y 0).val - k = 0; omega)
  | 1 => rfl
  | 2 => rfl

/-- A slab not yet reached reads the old values. -/
theorem slab_old (k : Fin 14) (new old : Vec F S14x1792x256 .f32) : accSlab (upto slabOf k.val new old) k = accSlab old k :=
  window_upto_old _ _ _ _ _ _ _ (fun z hz => by
    have e : slabOf ((Rect.unit (s := S14x1792x256) ![k.val, 0, 0] S1x1792x256.size (inb_acc k)).emb z) = k.val + 1 * (z 0).val := rfl
    omega)

/-! ## Clearing the accumulator -/

/-- Before trip `k` of the first loop the slabs before `k` are zero. -/
def inv1 (X : Vec F S14x1792x256 .f32) (k : ℕ) (_ : Unit) : sProp 𝕄 :=
  at_ c arg14 harg14 (upto slabOf k accZero X)

/-- One trip of the first loop clears a slab. -/
theorem trip1 (h1 : k1_cond1 i = 1#1) (X : Vec F S14x1792x256 .f32) (k : Fin k1_t1_loop.trips) (u : Unit) :
    inv1 arg14 harg14 c X k.val u
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h1 k u)
          (inv1 arg14 harg14 c X (k.val + 1)) := by
  have hk : k.val < 14 := Nat.lt_of_lt_of_le k.isLt k1_t1_abs.2.1
  unfold k1_t1_body inv1
  iintro H14
  sl_exec
  sl_step
  iapply at_of
  iexists _
  isplitl [H14]; · iexact H14
  ipureintro
  rw [View.read_writes_cons_put _ _ _ _ _ (k1_off1_eq k), View.writes_nil, harg14.read_unread]
  exact put_upto _ _ _ _ _ _ _ (slab_iff _) (fun y h => congrArg k1_pay31 (slab_local _ y h))

/-! ## The cotangents of the projections -/

/-- The row chunk of a position of the cotangents. -/
def chunkOf (y : S2x1792x256.Idx) : ℕ := (y 1).val / 64

theorem chunk_mem (p : ℕ) (k : ℕ) (y : S2x1792x256.Idx) :
    (∀ a, (![p, 64 * k, 0] : Fin 3 → ℕ) a ≤ (y a).val ∧ (y a).val < (![p, 64 * k, 0] : Fin 3 → ℕ) a + S1x64x256.size a) ↔ (y 0).val = p ∧ chunkOf y = k := by
  have h2 : (y 2).val < 256 := (y 2).isLt
  constructor
  · intro h
    have h0 : p ≤ (y 0).val ∧ (y 0).val < p + 1 := h 0
    have h1 : 64 * k ≤ (y 1).val ∧ (y 1).val < 64 * k + 64 := h 1
    exact ⟨by omega, by show (y 1).val / 64 = k; omega⟩
  · rintro ⟨h0, h1⟩
    have h1' : (y 1).val / 64 = k := h1
    exact forall_fin3.2 ⟨⟨by show p ≤ (y 0).val; omega, by show (y 0).val < p + 1; omega⟩,
      ⟨by show 64 * k ≤ (y 1).val; omega, by show (y 1).val < 64 * k + 64; omega⟩, ⟨Nat.zero_le _, by show (y 2).val < 0 + 256; omega⟩⟩

/-- A position's place within row chunk `k` of projection `p`. -/
theorem chunk_local (p k : ℕ) (y : S2x1792x256.Idx)
    (h : ∀ a, (![p, 64 * k, 0] : Fin 3 → ℕ) a ≤ (y a).val ∧ (y a).val < (![p, 64 * k, 0] : Fin 3 → ℕ) a + S1x64x256.size a) :
    @Eq S1x64x256.Idx (Rect.unitLocal (s := S2x1792x256) (off := ![p, 64 * k, 0]) (size := S1x64x256.size) y h) (ix3 (0 : Fin 1) (⟨(y 1).val % 64, row_mod _⟩ : Fin 64) (y 2 : Fin 256)) := by
  have h0 : p ≤ (y 0).val ∧ (y 0).val < p + 1 := h 0
  have h1 : 64 * k ≤ (y 1).val ∧ (y 1).val < 64 * k + 64 := h 1
  funext a
  match a with
  | 0 => exact Fin.ext (by show (y 0).val - p = 0; omega)
  | 1 => exact Fin.ext (by show (y 1).val - 64 * k = (y 1).val % 64; omega)
  | 2 => rfl

/-- Before trip `k` of the second loop the row chunks before `k` hold the cotangents. -/
def inv2 (DH : Vec F S1792x256 .bf16) (Z : Vec F S1792x2x256 .bf16) (X : Vec F S2x1792x256 .bf16) (k : ℕ) (_ : Unit) : sProp 𝕄 :=
  iprop(at_ c arg1 harg1 DH ∗ at_ c arg2 harg2 Z ∗ at_ c arg13 harg13 (upto chunkOf k (dzOf DH Z) X))

/-- One trip of the second loop fills a row chunk of both projections' cotangents. -/
theorem trip2 (DH : Vec F S1792x256 .bf16) (Z : Vec F S1792x2x256 .bf16) (X : Vec F S2x1792x256 .bf16) (k : Fin k1_t2_loop.trips) (u : Unit) :
    inv2 arg1 harg1 arg2 harg2 arg13 harg13 c DH Z X k.val u
      ⊢ wp frame (wpE (defs₀ (F := F)) 𝒱 (c : Thread nD τ) bd) E (k1_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k u)
          (inv2 arg1 harg1 arg2 harg2 arg13 harg13 c DH Z X (k.val + 1)) := by
  have hk : k.val < 28 := Nat.lt_of_lt_of_le k.isLt k1_t2_abs.2.1
  unfold k1_t2_body inv2
  iintro ⟨H1, H2, H13⟩
  sl_exec
  sl_step
  isplitl [H1]; · iexact H1
  isplitl [H2]; · iexact H2
  iapply at_of
  iexists _
  isplitl [H13]; · iexact H13
  ipureintro
  rw [View.read_writes_cons_put _ _ _ _ _ (k1_off5_eq k), View.read_writes_cons_put _ _ _ _ _ (k1_off4_eq k), View.writes_nil, harg13.read_unread]
  rw [rd harg1 _ _ (k1_off3_eq k) (inb_dh ⟨k.val, hk⟩), rd harg2 _ _ (k1_off2_eq k) (inb_z ⟨k.val, hk⟩)]
  exact put_put_upto _ _ _ _ _ _ _ _ _ _
    (fun y => by
      have h0 : (y 0).val < 2 := (y 0).isLt
      rw [chunk_mem, chunk_mem]
      constructor
      · rintro (h | h) <;> exact h.2
      · intro h
        by_cases hp : (y 0).val = 1
        · exact .inl ⟨hp, h⟩
        · exact .inr ⟨by omega, h⟩)
    (fun y h => by
      have hm := (chunk_mem 1 k.val y).1 h
      have hc : (y 1).val / 64 = k.val := hm.2
      unfold dzOf
      rw [if_pos hm.1]
      rw [show (⟨(y 1).val / 64, row_div (y 1).isLt⟩ : Fin 28) = ⟨k.val, hk⟩ from Fin.ext hc]
      exact congrArg (k1_pay35 (zRows Z ⟨k.val, hk⟩) (dhRows DH ⟨k.val, hk⟩)) (chunk_local _ _ y h))
    (fun y h => by
      have hm := (chunk_mem 0 k.val y).1 h
      have hc : (y 1).val / 64 = k.val := hm.2
      unfold dzOf
      rw [if_neg (by omega)]
      rw [show (⟨(y 1).val / 64, row_div (y 1).isLt⟩ : Fin 28) = ⟨k.val, hk⟩ from Fin.ext hc]
      exact congrArg (k1_pay36 (zRows Z ⟨k.val, hk⟩) (dhRows DH ⟨k.val, hk⟩)) (chunk_local _ _ y h))

/-! ## Accumulating the input gradient -/

/-- Before trip `k` of the third loop the slabs before `k` hold the sums with this point's products. -/
def inv3 (W : Vec F S2x1792x256 .i8) (S : Vec F S28x2x256 .bf16) (DZ : Vec F S2x1792x256 .bf16) (X : Vec F S14x1792x256 .f32) (k : ℕ) (_ : Unit) : sProp 𝕄 :=
  iprop(at_ c arg3 harg3 W ∗ at_ c arg4 harg4 S ∗ at_ c arg13 harg13 DZ ∗ at_ c arg14 harg14 (upto slabOf k (accNext W S DZ X) X))

/-- One trip of the third loop adds this point's products to a slab. -/
theorem trip3 (W : Vec F S2x1792x256 .i8) (S : Vec F S28x2x256 .bf16) (DZ : Vec F S2x1792x256 .bf16) (X : Vec F S14x1792x256 .f32) (k : Fin k1_t3_loop.trips) (u : Unit) :
    inv3 arg3 harg3 arg4 harg4 arg13 harg13 arg14 harg14 c W S DZ X k.val u
      ⊢ wp frame (wpE (defs₀ (F := F)) 𝒱 (c : Thread nD τ) bd) E (k1_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k u)
          (inv3 arg3 harg3 arg4 harg4 arg13 harg13 arg14 harg14 c W S DZ X (k.val + 1)) := by
  have hk : k.val < 14 := Nat.lt_of_lt_of_le k.isLt k1_t3_abs.2.1
  unfold k1_t3_body inv3
  iintro ⟨H3, H4, H13, H14⟩
  sl_exec
  sl_step
  isplitl [H3]; · iexact H3
  isplitl [H4]; · iexact H4
  isplitl [H13]; · iexact H13
  iapply at_of
  iexists _
  isplitl [H14]; · iexact H14
  ipureintro
  rw [View.read_writes_cons_put _ _ _ _ _ (k1_off10_eq k), View.writes_nil, harg14.read_unread]
  have e0 : trip3.sl.r_1 arg3 harg3 arg4 harg4 arg13 harg13 W S DZ k
      = k1_pay12 k1_pay10 (k1_pay11 (wBytes W 0 ⟨k.val, hk⟩) (wScale S ⟨k.val, hk⟩ 0 0) (wScale S ⟨k.val, hk⟩ 1 0)) (dzHalf DZ 0) := by
    unfold trip3.sl.r_1 trip3.sl.r
    rw [rd harg3 _ _ (k1_off6_eq k) (inb_w 0 ⟨k.val, hk⟩), rd harg4 _ _ (show k1_off7 k 0#32 = _ from k1_off7_eq k 0) (inb_s ⟨k.val, hk⟩ 0 0),
      rd harg4 _ _ (show k1_off7 k 1#32 = _ from k1_off7_eq k 1) (inb_s ⟨k.val, hk⟩ 1 0), rd harg13 DZ inb_S2x1792x256_S1x1792x256_0_0_0 rfl (inb_dz 0)]
    rfl
  have e1 : trip3.sl.r_2 arg3 harg3 arg4 harg4 W S k
      = k1_pay13 (wBytes W 1 ⟨k.val, hk⟩) (wScale S ⟨k.val, hk⟩ 0 1) (wScale S ⟨k.val, hk⟩ 1 1) := by
    unfold trip3.sl.r_2
    rw [rd harg3 _ _ (k1_off8_eq k) (inb_w 1 ⟨k.val, hk⟩), rd harg4 _ _ (show k1_off9 k 0#32 = _ from k1_off9_eq k 0) (inb_s ⟨k.val, hk⟩ 0 1),
      rd harg4 _ _ (show k1_off9 k 1#32 = _ from k1_off9_eq k 1) (inb_s ⟨k.val, hk⟩ 1 1)]
    rfl
  have e2 : trip3.sl.r_3 arg13 harg13 DZ = k1_pay14 (dzHalf DZ 1) := by
    unfold trip3.sl.r_3
    rw [rd harg13 DZ inb_S2x1792x256_S1x1792x256_1_0_0 rfl (inb_dz 1)]
    rfl
  rw [e0, e1, e2, rd harg14 _ _ (k1_off10_eq k) (inb_acc ⟨k.val, hk⟩)]
  refine put_upto _ _ _ _ _ _ _ (slab_iff _) (fun y h => ?_)
  have hy : (y 0 : Fin 14) = ⟨k.val, hk⟩ := Fin.ext ((slab_iff k.val y).1 h)
  rw [slab_local _ y h]
  unfold accNext
  rw [hy]
  exact congrArg (fun a => accPay W S DZ ⟨k.val, hk⟩ a (ix3 0 (y 1) (y 2))) (slab_old ⟨k.val, hk⟩ _ _)

/-! ## The last point -/

/-- Before trip `k` of the fourth loop the slabs before `k` hold the sums with the low-rank term. -/
def inv4 (G : Vec F S2x32x1792 .f32) (A : Vec F S64x3584 .bf16) (X : Vec F S14x1792x256 .f32) (k : ℕ) (_ : Unit) : sProp 𝕄 :=
  iprop(at_ c arg7 harg7 A ∗ at_ c arg14 harg14 (upto slabOf k (accLast G A X) X))

/-- One trip of the fourth loop adds the low-rank term to a slab. -/
theorem trip4 (h2 : k1_cond2 i = 1#1) (G : Vec F S2x32x1792 .f32) (A : Vec F S64x3584 .bf16) (X : Vec F S14x1792x256 .f32) (k : Fin k1_t4_loop.trips) (u : Unit) :
    inv4 arg7 harg7 arg14 harg14 c G A X k.val u
      ⊢ wp frame (wpE (defs₀ (F := F)) 𝒱 (c : Thread nD τ) bd) E (k1_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h2 G k u)
          (inv4 arg7 harg7 arg14 harg14 c G A X (k.val + 1)) := by
  have hk : k.val < 14 := Nat.lt_of_lt_of_le k.isLt k1_t4_abs.2.1
  unfold k1_t4_body inv4
  iintro ⟨H7, H14⟩
  sl_exec
  sl_step
  isplitl [H7]; · iexact H7
  iapply at_of
  iexists _
  isplitl [H14]; · iexact H14
  ipureintro
  rw [View.read_writes_cons_put _ _ _ _ _ (k1_off11_eq k), View.writes_nil, harg14.read_unread]
  rw [rd harg14 _ _ (k1_off11_eq k) (inb_acc ⟨k.val, hk⟩), rd harg7 _ _ (k1_off12_eq k) (inb_at ⟨k.val, hk⟩)]
  refine put_upto _ _ _ _ _ _ _ (slab_iff _) (fun y h => ?_)
  have hy : (y 0 : Fin 14) = ⟨k.val, hk⟩ := Fin.ext ((slab_iff k.val y).1 h)
  rw [slab_local _ y h]
  unfold accLast
  rw [hy]
  exact congrArg (fun a => k1_pay5 G a (atCols A ⟨k.val, hk⟩) (ix3 0 (y 1) (y 2))) (slab_old ⟨k.val, hk⟩ _ _)

/-- A position inside a rectangle is the rectangle's index at its own place. -/
theorem emb_local {s : Shape} (off size : Fin s.rank → ℕ) (inb : ∀ a, off a + size a ≤ s.size a) (y : s.Idx)
    (h : ∀ a, off a ≤ (y a).val ∧ (y a).val < off a + size a) :
    (Rect.unit off size inb).emb (Rect.unitLocal (s := s) y h) = y :=
  funext fun a => Fin.ext (by
    show off a + 1 * ((y a).val - off a) = (y a).val
    have := h a
    omega)

/-- The row tile of a position of the input gradient. -/
def tileOf (y : S1792x3584.Idx) : ℕ := (y 0).val / 256

/-- The column tile of a position of a row tile. -/
def colOf (y : S256x3584.Idx) : ℕ := (y 1).val / 256

/-- Writing column tile `j` moves the boundary of the written tiles. -/
theorem tile_put (A : Vec F S14x1792x256 .f32) (k : Fin 7) (x : Vec F S256x3584 .bf16) (j : ℕ) (hj : j < 14) {off : Fin 2 → ℕ} {w : Vec F S256x256 .bf16}
    (ho : off = ![0, 256 * j]) (hw : w = k1_pay19 (accTile A ⟨j, hj⟩ k)) :
    VecWindow.put (s := S256x3584) (upto colOf j (tileRows (dxOf A) k) x) off S256x256.size w = upto colOf (j + 1) (tileRows (dxOf A) k) x := by
  subst ho hw
  refine put_upto _ _ _ _ _ _ _ (fun y => ?_) (fun y h => ?_)
  · have h0 : (y 0).val < 256 := (y 0).isLt
    constructor
    · intro h
      have h1 : 256 * j ≤ (y 1).val ∧ (y 1).val < 256 * j + 256 := h 1
      show (y 1).val / 256 = j
      omega
    · intro h
      have h1 : (y 1).val / 256 = j := h
      exact forall_fin2.2 ⟨⟨Nat.zero_le _, by show (y 0).val < 0 + 256; omega⟩,
        ⟨by show 256 * j ≤ (y 1).val; omega, by show (y 1).val < 256 * j + 256; omega⟩⟩
  · have h0 : (y 0).val < 256 := (y 0).isLt
    have h1 : 256 * j ≤ (y 1).val ∧ (y 1).val < 256 * j + 256 := h 1
    have hr : ((Rect.unit (s := S1792x3584) ![256 * k.val, 0] S256x3584.size (inb_rows k)).emb y 0).val = 256 * k.val + 1 * (y 0).val := rfl
    have hc : ((Rect.unit (s := S1792x3584) ![256 * k.val, 0] S256x3584.size (inb_rows k)).emb y 1).val = 0 + 1 * (y 1).val := rfl
    show _ = dxOf A ((Rect.unit (s := S1792x3584) ![256 * k.val, 0] S256x3584.size (inb_rows k)).emb y)
    unfold dxOf
    refine congrArg₂ (fun (a : Vec F S1x256x256 .f32) (b : S256x256.Idx) => k1_pay19 a b) ?_ ?_
    · refine congrArg₂ (fun a b => accTile A a b) ?_ ?_
      · exact Fin.ext (by show j = _ / 256; rw [hc]; omega)
      · exact Fin.ext (by show k.val = _ / 256; rw [hr]; omega)
    · funext a
      match a with
      | 0 => exact Fin.ext (by show (y 0).val - 0 = _ % 256; rw [hr]; omega)
      | 1 => exact Fin.ext (by show (y 1).val - 256 * j = _ % 256; rw [hc]; omega)

/-- Before trip `k` of the fifth loop the row tiles before `k` of the input gradient are written, and the gradient of
    the low-rank factor sums the tiles before `k`. -/
def inv5 (G : Vec F S2x32x1792 .f32) (A : Vec F S14x1792x256 .f32) (X DX : Vec F S1792x3584 .bf16) (k : ℕ) (_ : Unit) : sProp 𝕄 :=
  iprop(at_ c arg14 harg14 A ∗ at_ c arg15 harg15 G ∗ (arg8.view.loc (c : Thread nD τ) ↦{fullShare} harg8.unread X)
    ∗ at_ c arg10 harg10 (daUpto G X k) ∗ (∃ x, at_ c arg17 harg17 x) ∗ semVal ((c : Thread nD τ), SemLoc.dma arg18.sem) 0 ∗ (∃ x, at_ c arg16 harg16 x)
    ∗ (arg9.view.loc (c : Thread nD τ) ↦{fullShare} harg9.unread (upto tileOf k (dxOf A) DX)) ∗ (∃ W, owes (c : Thread nD τ) 0 W))

/-- One trip of the fifth loop. -/
theorem trip5 (h2 : k1_cond2 i = 1#1) (G : Vec F S2x32x1792 .f32) (A : Vec F S14x1792x256 .f32) (X DX : Vec F S1792x3584 .bf16) (k : Fin k1_t5_loop.trips) (u : Unit) :
    inv5 arg8 harg8 arg9 harg9 arg10 harg10 arg14 harg14 arg15 harg15 arg16 harg16 arg17 harg17 arg18 c G A X DX k.val u
      ⊢ wp frame (wpE (defs₀ (F := F)) 𝒱 (c : Thread nD τ) bd) Set.univ (k1_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h2 k u)
          (inv5 arg8 harg8 arg9 harg9 arg10 harg10 arg14 harg14 arg15 harg15 arg16 harg16 arg17 harg17 arg18 c G A X DX (k.val + 1)) := by
  have hk : k.val < 7 := Nat.lt_of_lt_of_le k.isLt k1_t5_abs.2.1
  unfold k1_t5_body inv5
  iintro ⟨H14, H15, H8, H10, ⟨%x17, H17⟩, HS, ⟨%x16, H16⟩, H9, ⟨%W, HO⟩⟩
  sl_exec
  sl_step
  isplitl [H14]; · iexact H14
  isplitl [H15]; · iexact H15
  isplitl [H8]; · iexact H8
  isplitl [H10]
  · iapply at_of
    iexists _
    isplitl [H10]; · iexact H10
    ipureintro
    have e0 : trip5.sl.v73 arg8 harg8 arg16 i h2 X k = tileRows X ⟨k.val, hk⟩ := by
      unfold trip5.sl.v73
      unfold View.readCov
      rw [View.readAt_full, View.read_writes_whole]
      exact rd harg8 _ _ (k1_off13_eq k) (inb_rows ⟨k.val, hk⟩)
    rw [View.read_writes_full, e0, View.readAt_full, harg10.read_unread, rd harg15 _ _ (k1_off14_eq k) (inb_gt ⟨k.val, hk⟩)]
    rw [daUpto, dif_pos hk]
    rfl
  isplitl [H17]
  · iexists _
    iapply at_of
    iexists _
    isplitl [H17]; · iexact H17
    ipureintro
    rfl
  isplitl [HS]; · iexact HS
  isplitl [H16]
  · iexists _
    iapply at_of
    iexists _
    isplitl [H16]; · iexact H16
    ipureintro
    rfl
  isplitl [H9]
  · have e : trip5.sl.H9_w1 arg9 harg9 arg14 harg14 arg17 harg17 i h2 A DX k x17 = harg9.unread (upto tileOf (k.val + 1) (dxOf A) DX) := by
      refine harg9.eq_unread ?_
      unfold trip5.sl.H9_w1
      refine (read_slice_store arg9 _ _ (k1_off13_eq k) _ _).trans ?_
      rw [harg9.read_unread]
      have e1 : trip5.sl.dma47 arg14 harg14 arg17 harg17 i h2 A k x17 = tileRows (dxOf A) ⟨k.val, hk⟩ := by
        unfold trip5.sl.dma47 trip5.sl.H17_14 trip5.sl.r trip5.sl.r_1 trip5.sl.r_2
        rw [rd harg14 _ _ (k1_off15_eq k) (inb_at2 0 ⟨k.val, hk⟩), rd harg14 _ _ (k1_off16_eq k) (inb_at2 1 ⟨k.val, hk⟩),
          rd harg14 _ _ (k1_off17_eq k) (inb_at2 2 ⟨k.val, hk⟩), rd harg14 _ _ (k1_off18_eq k) (inb_at2 3 ⟨k.val, hk⟩),
          rd harg14 _ _ (k1_off19_eq k) (inb_at2 4 ⟨k.val, hk⟩), rd harg14 _ _ (k1_off20_eq k) (inb_at2 5 ⟨k.val, hk⟩),
          rd harg14 _ _ (k1_off21_eq k) (inb_at2 6 ⟨k.val, hk⟩), rd harg14 _ _ (k1_off22_eq k) (inb_at2 7 ⟨k.val, hk⟩),
          rd harg14 _ _ (k1_off23_eq k) (inb_at2 8 ⟨k.val, hk⟩), rd harg14 _ _ (k1_off24_eq k) (inb_at2 9 ⟨k.val, hk⟩),
          rd harg14 _ _ (k1_off25_eq k) (inb_at2 10 ⟨k.val, hk⟩), rd harg14 _ _ (k1_off26_eq k) (inb_at2 11 ⟨k.val, hk⟩),
          rd harg14 _ _ (k1_off27_eq k) (inb_at2 12 ⟨k.val, hk⟩), rd harg14 _ _ (k1_off28_eq k) (inb_at2 13 ⟨k.val, hk⟩)]
        show arg17.view.read (Elt F) (arg17.view.writes (Elt F) _ _) = _
        simp only [View.read_writes_cons_put _ _ _ _ _ rfl, View.writes_nil, harg17.read_unread]
        rw [← upto_zero colOf (tileRows (dxOf A) ⟨k.val, hk⟩) x17]
        rw [tile_put A ⟨k.val, hk⟩ x17 0 (by decide), tile_put A ⟨k.val, hk⟩ x17 1 (by decide), tile_put A ⟨k.val, hk⟩ x17 2 (by decide),
          tile_put A ⟨k.val, hk⟩ x17 3 (by decide), tile_put A ⟨k.val, hk⟩ x17 4 (by decide), tile_put A ⟨k.val, hk⟩ x17 5 (by decide),
          tile_put A ⟨k.val, hk⟩ x17 6 (by decide), tile_put A ⟨k.val, hk⟩ x17 7 (by decide), tile_put A ⟨k.val, hk⟩ x17 8 (by decide),
          tile_put A ⟨k.val, hk⟩ x17 9 (by decide), tile_put A ⟨k.val, hk⟩ x17 10 (by decide), tile_put A ⟨k.val, hk⟩ x17 11 (by decide),
          tile_put A ⟨k.val, hk⟩ x17 12 (by decide), tile_put A ⟨k.val, hk⟩ x17 13 (by decide)]
        · exact upto_all _ _ _ _ (fun y => by
            have : (y 1).val < 3584 := (y 1).isLt
            show (y 1).val / 256 < 14
            omega)
        all_goals rfl
      rw [e1]
      refine put_upto _ _ _ _ _ _ _ (fun y => ?_) (fun y h => ?_)
      · have h1 : (y 1).val < 3584 := (y 1).isLt
        constructor
        · intro h
          have h0 : 256 * k.val ≤ (y 0).val ∧ (y 0).val < 256 * k.val + 256 := h 0
          show (y 0).val / 256 = k.val
          omega
        · intro h
          have h0 : (y 0).val / 256 = k.val := h
          exact forall_fin2.2 ⟨⟨by show 256 * k.val ≤ (y 0).val; omega, by show (y 0).val < 256 * k.val + 256; omega⟩,
            ⟨Nat.zero_le _, by show (y 1).val < 0 + 3584; omega⟩⟩
      · exact congrArg (dxOf A) (emb_local (s := S1792x3584) ![256 * k.val, 0] S256x3584.size (inb_rows ⟨k.val, hk⟩) y h)
    rw [← e]
    iexact H9
  iexists _
  iexact HO

end Cert.KernelIdeal.Gen

end
-- ==== Proof.KI.Body.lean ====
/- One grid point of the main kernel, on whole memrefs at named values. -/
module

public import proofs.«01_k».proof.Proof.Slabs
public import proofs.«01_k».proof.Proof.Gen.KernelIdeal.Launch
public import proofs.«01_k».proof.Proof.Gen.KernelIdeal.Skeleton
public import proofs.«01_k».proof.Proof.Gen.KernelIdeal.Points
public import proofs.«01_k».proof.Proof.KI.Trips
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [FloatOps F]

local notation "𝕄" => MT nD τ sig Unit (Elt F) ℕ (Pipeline.UD sig nD τ) ℕ

variable (arg1 : Memref sig .tc .vmem S1792x256 .bf16) (harg1 : arg1.IsWhole) (arg2 : Memref sig .tc .vmem S1792x2x256 .bf16) (harg2 : arg2.IsWhole)
  (arg3 : Memref sig .tc .vmem S2x1792x256 .i8) (harg3 : arg3.IsWhole) (arg4 : Memref sig .tc .vmem S28x2x256 .bf16) (harg4 : arg4.IsWhole)
  (arg5 : Memref sig .tc .vmem S2x32x256 .bf16) (harg5 : arg5.IsWhole) (arg6 : Memref sig .tc .vmem S64x1792 .bf16) (harg6 : arg6.IsWhole)
  (arg7 : Memref sig .tc .vmem S64x3584 .bf16) (harg7 : arg7.IsWhole) (arg8 : Memref sig .tc .hbm S1792x3584 .bf16) (harg8 : arg8.IsWhole)
  (arg9 : Memref sig .tc .hbm S1792x3584 .bf16) (harg9 : arg9.IsWhole) (arg10 : Memref sig .tc .vmem S64x3584 .f32) (harg10 : arg10.IsWhole)
  (arg11 : Memref sig .tc .vmem S2x32x256 .f32) (harg11 : arg11.IsWhole) (arg12 : Memref sig .tc .vmem S64x1792 .bf16) (harg12 : arg12.IsWhole)
  (arg13 : Memref sig .tc .vmem S2x1792x256 .bf16) (harg13 : arg13.IsWhole) (arg14 : Memref sig .tc .vmem S14x1792x256 .f32) (harg14 : arg14.IsWhole)
  (arg15 : Memref sig .tc .vmem S2x32x1792 .f32) (harg15 : arg15.IsWhole) (arg16 : Memref sig .tc .vmem S256x3584 .bf16) (harg16 : arg16.IsWhole)
  (arg17 : Memref sig .tc .vmem S256x3584 .bf16) (harg17 : arg17.IsWhole) (arg18 : DmaSems sig S_)

variable (c : Dev nD) (𝒱 : Variants) (bd : Option 𝒱.V) (i : grid1.Coords)

theorem trips1 : Scf.trips k1_t1_loop.lb k1_t1_loop.ub k1_t1_loop.st = 14 := by decide +kernel
theorem trips2 : Scf.trips k1_t2_loop.lb k1_t2_loop.ub k1_t2_loop.st = 28 := by decide +kernel
theorem trips3 : Scf.trips k1_t3_loop.lb k1_t3_loop.ub k1_t3_loop.st = 14 := by decide +kernel
theorem trips4 : Scf.trips k1_t4_loop.lb k1_t4_loop.ub k1_t4_loop.st = 14 := by decide +kernel
theorem trips5 : Scf.trips k1_t5_loop.lb k1_t5_loop.ub k1_t5_loop.st = 7 := by decide +kernel

theorem upto_slab (n : ℕ) (h : n = 14) (new old : Vec F S14x1792x256 .f32) : upto slabOf n new old = new :=
  upto_all _ _ _ _ (fun y => by
    have : (y 0).val < 14 := (y 0).isLt
    show (y 0).val < n
    omega)

theorem upto_chunk (n : ℕ) (h : n = 28) (new old : Vec F S2x1792x256 .bf16) : upto chunkOf n new old = new :=
  upto_all _ _ _ _ (fun y => by
    have : (y 1).val < 1792 := (y 1).isLt
    show (y 1).val / 64 < n
    omega)

theorem upto_tile (n : ℕ) (h : n = 7) (new old : Vec F S1792x3584 .bf16) : upto tileOf n new old = new :=
  upto_all _ _ _ _ (fun y => by
    have : (y 0).val < 1792 := (y 0).isLt
    show (y 0).val / 256 < n
    omega)

variable (DH : Vec F S1792x256 .bf16) (Z : Vec F S1792x2x256 .bf16) (W : Vec F S2x1792x256 .i8) (S : Vec F S28x2x256 .bf16)
  (B : Vec F S2x32x256 .bf16) (XA : Vec F S64x1792 .bf16) (AT : Vec F S64x3584 .bf16) (X DX : Vec F S1792x3584 .bf16)
  (X10 : Vec F S64x3584 .f32) (X11 : Vec F S2x32x256 .f32) (X12 : Vec F S64x1792 .bf16) (X13 : Vec F S2x1792x256 .bf16)
  (ACC : Vec F S14x1792x256 .f32) (G : Vec F S2x32x1792 .f32)

/-- The half of a two-plane array a position is in. -/
theorem half_mem {m n : ℕ} (p : ℕ) (y : (⟨3, ![2, m, n]⟩ : Shape).Idx) :
    (∀ a, (![p, 0, 0] : Fin 3 → ℕ) a ≤ (y a).val ∧ (y a).val < (![p, 0, 0] : Fin 3 → ℕ) a + (![1, m, n] : Fin 3 → ℕ) a) ↔ (y 0).val = p := by
  have h1 : (y 1).val < m := (y 1).isLt
  have h2 : (y 2).val < n := (y 2).isLt
  constructor
  · intro h
    have h0 : p ≤ (y 0).val ∧ (y 0).val < p + 1 := h 0
    omega
  · intro h0
    exact forall_fin3.2 ⟨⟨by show p ≤ (y 0).val; omega, by show (y 0).val < p + 1; omega⟩,
      ⟨Nat.zero_le _, by show (y 1).val < 0 + m; omega⟩, ⟨Nat.zero_le _, by show (y 2).val < 0 + n; omega⟩⟩

theorem half_local {m n : ℕ} (p : ℕ) (y : (⟨3, ![2, m, n]⟩ : Shape).Idx)
    (h : ∀ a, (![p, 0, 0] : Fin 3 → ℕ) a ≤ (y a).val ∧ (y a).val < (![p, 0, 0] : Fin 3 → ℕ) a + (![1, m, n] : Fin 3 → ℕ) a) :
    @Eq (⟨3, ![1, m, n]⟩ : Shape).Idx (Rect.unitLocal (s := (⟨3, ![2, m, n]⟩ : Shape)) (off := ![p, 0, 0]) (size := ![1, m, n]) y h)
      (ix3 (0 : Fin 1) (y 1 : Fin m) (y 2 : Fin n)) := by
  have h0 : p ≤ (y 0).val ∧ (y 0).val < p + 1 := h 0
  funext a
  match a with
  | 0 => exact Fin.ext (by show (y 0).val - p = 0; omega)
  | 1 => rfl
  | 2 => rfl

/-- Writing both planes of a two-plane array. -/
theorem put_halves {m n : ℕ} {α : Type} (x : (⟨3, ![2, m, n]⟩ : Shape).Idx → α) (w0 w1 : (⟨3, ![1, m, n]⟩ : Shape).Idx → α) :
    VecWindow.put (s := ⟨3, ![2, m, n]⟩) (VecWindow.put (s := ⟨3, ![2, m, n]⟩) x ![0, 0, 0] ![1, m, n] w0) ![1, 0, 0] ![1, m, n] w1
      = fun y => if (y 0).val = 0 then w0 (ix3 (0 : Fin 1) (y 1 : Fin m) (y 2 : Fin n)) else w1 (ix3 (0 : Fin 1) (y 1 : Fin m) (y 2 : Fin n)) := by
  rw [← upto_zero (fun _ => 0) (fun y => if (y 0).val = 0 then w0 (ix3 (0 : Fin 1) (y 1 : Fin m) (y 2 : Fin n)) else w1 (ix3 (0 : Fin 1) (y 1 : Fin m) (y 2 : Fin n))) x]
  refine (put_put_upto _ _ _ _ _ _ _ _ _ _ (fun y => ?_) (fun y h => ?_) (fun y h => ?_)).trans (upto_all _ _ _ _ (fun _ => Nat.zero_lt_one))
  · have h0 : (y 0).val < 2 := (y 0).isLt
    rw [half_mem, half_mem]
    constructor
    · intro _; rfl
    · intro _; omega
  · have hm := (half_mem 0 y).1 h
    rw [if_pos hm]
    exact congrArg w0 (half_local 0 y h)
  · have hm := (half_mem 1 y).1 h
    rw [if_neg (by omega)]
    exact congrArg w1 (half_local 1 y h)

/-- The memrefs a grid point does not write, at their values. -/
def ins : sProp 𝕄 :=
  iprop(at_ c arg1 harg1 DH ∗ at_ c arg2 harg2 Z ∗ at_ c arg3 harg3 W ∗ at_ c arg4 harg4 S ∗ at_ c arg5 harg5 B ∗ at_ c arg6 harg6 XA ∗ at_ c arg7 harg7 AT
    ∗ (arg8.view.loc (c : Thread nD τ) ↦{fullShare} harg8.unread X))

/-- The scratch of which nothing is said: the two staging buffers of the copies, and the semaphore and waits. -/
def junk : sProp 𝕄 :=
  iprop((∃ x, at_ (F := F) c arg16 harg16 x) ∗ (∃ x, at_ (F := F) c arg17 harg17 x) ∗ semVal ((c : Thread nD τ), SemLoc.dma arg18.sem) 0 ∗ (∃ W, owes (c : Thread nD τ) 0 W))

/-- The memrefs a grid point writes, at their values. -/
def outs (DX : Vec F S1792x3584 .bf16) (X10 : Vec F S64x3584 .f32) (X11 : Vec F S2x32x256 .f32) (X12 : Vec F S64x1792 .bf16) (X13 : Vec F S2x1792x256 .bf16)
    (ACC : Vec F S14x1792x256 .f32) (G : Vec F S2x32x1792 .f32) : sProp 𝕄 :=
  iprop((arg9.view.loc (c : Thread nD τ) ↦{fullShare} harg9.unread DX) ∗ at_ c arg10 harg10 X10 ∗ at_ c arg11 harg11 X11 ∗ at_ c arg12 harg12 X12 ∗ at_ c arg13 harg13 X13
    ∗ at_ c arg14 harg14 ACC ∗ at_ c arg15 harg15 G)

set_option maxHeartbeats 1000000 in
/-- The first point: the accumulators start from zero. -/
theorem body_first (h1 : k1_cond1 i = 1#1) (h2 : ¬ k1_cond2 i = 1#1) :
    iprop(ins arg1 harg1 arg2 harg2 arg3 harg3 arg4 harg4 arg5 harg5 arg6 harg6 arg7 harg7 arg8 harg8 c DH Z W S B XA AT X
        ∗ outs arg9 harg9 arg10 harg10 arg11 harg11 arg12 harg12 arg13 harg13 arg14 harg14 arg15 harg15 c DX X10 X11 X12 X13 ACC G
        ∗ junk (F := F) arg16 harg16 arg17 harg17 arg18 c)
      ⊢ wp frame (wpE (defs₀ (F := F)) 𝒱 (c : Thread nD τ) bd) Set.univ (cc1_main (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18)
          (fun _ => iprop(ins arg1 harg1 arg2 harg2 arg3 harg3 arg4 harg4 arg5 harg5 arg6 harg6 arg7 harg7 arg8 harg8 c DH Z W S B XA AT X
            ∗ outs arg9 harg9 arg10 harg10 arg11 harg11 arg12 harg12 arg13 harg13 arg14 harg14 arg15 harg15 c
                DX X10 (dbOf XA (dzOf DH Z)) X12 (dzOf DH Z) (accNext W S (dzOf DH Z) accZero) (gNext B (dzOf DH Z) k1_pay30)
            ∗ junk (F := F) arg16 harg16 arg17 harg17 arg18 c)) := by
  simp only [cc1_main_eq_skeleton]; unfold cc1_main_skel
  unfold ins outs junk
  iintro ⟨⟨H1, H2, H3, H4, H5, H6, H7, H8⟩, ⟨H9, H10, H11, H12, H13, H14, H15⟩, ⟨H16, H17, HS, HO⟩⟩
  sl_exec (disch := first | sl_exact h1 | sl_exact h2)
  sl_for (inv1 arg14 harg14 c ACC) $$ [H14]
  · intro k acc
    exact trip1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i h1 ACC k acc
  · unfold inv1
    rw [upto_zero]
    iexact H14
  iintro %a1 H14; unfold inv1
  rw [upto_slab _ trips1]
  ihave H15 := (at_of c arg15 harg15 (k1_pay30 (F := F))) $$ [H15]
  · iexists _
    isplitl [H15]; · iexact H15
    ipureintro
    exact View.read_writes_full _ _ _ _ _
  sl_exec (disch := first | sl_exact h1 | sl_exact h2)
  sl_for (inv2 arg1 harg1 arg2 harg2 arg13 harg13 c DH Z X13) $$ [H1 H2 H13]
  · intro k acc
    exact trip2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i DH Z X13 k acc
  · unfold inv2
    rw [upto_zero]
    isplitl [H1]; · iexact H1
    isplitl [H2]; · iexact H2
    iexact H13
  iintro %a2 HI; unfold inv2; icases HI with ⟨H1, H2, H13⟩
  rw [upto_chunk _ trips2]
  sl_exec (disch := first | sl_exact h1 | sl_exact h2)
  sl_for (inv3 arg3 harg3 arg4 harg4 arg13 harg13 arg14 harg14 c W S (dzOf DH Z) accZero) $$ [H3 H4 H13 H14]
  · intro k acc
    exact trip3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i W S (dzOf DH Z) accZero k acc
  · unfold inv3
    rw [upto_zero]
    isplitl [H3]; · iexact H3
    isplitl [H4]; · iexact H4
    isplitl [H13]; · iexact H13
    iexact H14
  iintro %a3 HI; unfold inv3; icases HI with ⟨H3, H4, H13, H14⟩
  rw [upto_slab _ trips3]
  sl_exec (disch := first | sl_exact h1 | sl_exact h2)
  ihave H15 := (at_of c arg15 harg15 (gNext B (dzOf DH Z) k1_pay30)) $$ [H15]
  · iexists _
    isplitl [H15]; · iexact H15
    ipureintro
    unfold body_first.sl.v26
    rw [View.read_writes_cons_put _ _ _ _ _ rfl, View.read_writes_cons_put _ _ _ _ _ rfl,
      rd harg15 k1_pay30 inb_S2x32x1792_S1x32x1792_1_0_0 rfl (inb_g 1), rd harg15 k1_pay30 inb_S2x32x1792_S1x32x1792_0_0_0 rfl (inb_g 0),
      rd harg5 B inb_S2x32x256_S1x32x256_1_0_0 rfl (inb_b 1), rd harg5 B inb_S2x32x256_S1x32x256_0_0_0 rfl (inb_b 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  ihave H11 := (at_of c arg11 harg11 (dbOf XA (dzOf DH Z))) $$ [H11]
  · iexists _
    isplitl [H11]; · iexact H11
    ipureintro
    unfold body_first.sl.r
    rw [View.read_writes_cons_put _ _ _ _ _ rfl, View.read_writes_cons_put _ _ _ _ _ rfl,
      rd harg6 XA inb_S64x1792_S32x1792_32_0 rfl (inb_xa 1), rd harg6 XA inb_S64x1792_S32x1792_0_0 rfl (inb_xa 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  sl_step
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitr [H16 H17 HS HO]
  · isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  isplitl [H17]; · iexact H17
  isplitl [HS]; · iexact HS
  iexact HO

set_option maxHeartbeats 1000000 in
/-- A point that is neither first nor last. -/
theorem body_mid (h1 : ¬ k1_cond1 i = 1#1) (h2 : ¬ k1_cond2 i = 1#1) :
    iprop(ins arg1 harg1 arg2 harg2 arg3 harg3 arg4 harg4 arg5 harg5 arg6 harg6 arg7 harg7 arg8 harg8 c DH Z W S B XA AT X
        ∗ outs arg9 harg9 arg10 harg10 arg11 harg11 arg12 harg12 arg13 harg13 arg14 harg14 arg15 harg15 c DX X10 X11 X12 X13 ACC G
        ∗ junk (F := F) arg16 harg16 arg17 harg17 arg18 c)
      ⊢ wp frame (wpE (defs₀ (F := F)) 𝒱 (c : Thread nD τ) bd) Set.univ (cc1_main (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18)
          (fun _ => iprop(ins arg1 harg1 arg2 harg2 arg3 harg3 arg4 harg4 arg5 harg5 arg6 harg6 arg7 harg7 arg8 harg8 c DH Z W S B XA AT X
            ∗ outs arg9 harg9 arg10 harg10 arg11 harg11 arg12 harg12 arg13 harg13 arg14 harg14 arg15 harg15 c
                DX X10 (dbOf XA (dzOf DH Z)) X12 (dzOf DH Z) (accNext W S (dzOf DH Z) ACC) (gNext B (dzOf DH Z) G)
            ∗ junk (F := F) arg16 harg16 arg17 harg17 arg18 c)) := by
  simp only [cc1_main_eq_skeleton]; unfold cc1_main_skel
  unfold ins outs junk
  iintro ⟨⟨H1, H2, H3, H4, H5, H6, H7, H8⟩, ⟨H9, H10, H11, H12, H13, H14, H15⟩, ⟨H16, H17, HS, HO⟩⟩
  sl_exec (disch := first | sl_exact h1 | sl_exact h2)
  sl_for (inv2 arg1 harg1 arg2 harg2 arg13 harg13 c DH Z X13) $$ [H1 H2 H13]
  · intro k acc
    exact trip2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i DH Z X13 k acc
  · unfold inv2
    rw [upto_zero]
    isplitl [H1]; · iexact H1
    isplitl [H2]; · iexact H2
    iexact H13
  iintro %a2 HI; unfold inv2; icases HI with ⟨H1, H2, H13⟩
  rw [upto_chunk _ trips2]
  sl_exec (disch := first | sl_exact h1 | sl_exact h2)
  sl_for (inv3 arg3 harg3 arg4 harg4 arg13 harg13 arg14 harg14 c W S (dzOf DH Z) ACC) $$ [H3 H4 H13 H14]
  · intro k acc
    exact trip3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i W S (dzOf DH Z) ACC k acc
  · unfold inv3
    rw [upto_zero]
    isplitl [H3]; · iexact H3
    isplitl [H4]; · iexact H4
    isplitl [H13]; · iexact H13
    iexact H14
  iintro %a3 HI; unfold inv3; icases HI with ⟨H3, H4, H13, H14⟩
  rw [upto_slab _ trips3]
  sl_exec (disch := first | sl_exact h1 | sl_exact h2)
  ihave H15 := (at_of c arg15 harg15 (gNext B (dzOf DH Z) G)) $$ [H15]
  · iexists _
    isplitl [H15]; · iexact H15
    ipureintro
    unfold body_mid.sl.v26
    rw [View.read_writes_cons_put _ _ _ _ _ rfl, View.read_writes_cons_put _ _ _ _ _ rfl,
      rd harg15 G inb_S2x32x1792_S1x32x1792_1_0_0 rfl (inb_g 1), rd harg15 G inb_S2x32x1792_S1x32x1792_0_0_0 rfl (inb_g 0),
      rd harg5 B inb_S2x32x256_S1x32x256_1_0_0 rfl (inb_b 1), rd harg5 B inb_S2x32x256_S1x32x256_0_0_0 rfl (inb_b 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  ihave H11 := (at_of c arg11 harg11 (dbOf XA (dzOf DH Z))) $$ [H11]
  · iexists _
    isplitl [H11]; · iexact H11
    ipureintro
    unfold body_mid.sl.r
    rw [View.read_writes_cons_put _ _ _ _ _ rfl, View.read_writes_cons_put _ _ _ _ _ rfl,
      rd harg6 XA inb_S64x1792_S32x1792_32_0 rfl (inb_xa 1), rd harg6 XA inb_S64x1792_S32x1792_0_0 rfl (inb_xa 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  sl_step
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitr [H16 H17 HS HO]
  · isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  isplitl [H17]; · iexact H17
  isplitl [HS]; · iexact HS
  iexact HO

set_option maxHeartbeats 1000000 in
/-- The last point. -/
theorem body_last (h1 : ¬ k1_cond1 i = 1#1) (h2 : k1_cond2 i = 1#1) :
    iprop(ins arg1 harg1 arg2 harg2 arg3 harg3 arg4 harg4 arg5 harg5 arg6 harg6 arg7 harg7 arg8 harg8 c DH Z W S B XA AT X
        ∗ outs arg9 harg9 arg10 harg10 arg11 harg11 arg12 harg12 arg13 harg13 arg14 harg14 arg15 harg15 c DX X10 X11 X12 X13 ACC G
        ∗ junk (F := F) arg16 harg16 arg17 harg17 arg18 c)
      ⊢ wp frame (wpE (defs₀ (F := F)) 𝒱 (c : Thread nD τ) bd) Set.univ (cc1_main (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18)
          (fun _ => iprop(ins arg1 harg1 arg2 harg2 arg3 harg3 arg4 harg4 arg5 harg5 arg6 harg6 arg7 harg7 arg8 harg8 c DH Z W S B XA AT X
            ∗ outs arg9 harg9 arg10 harg10 arg11 harg11 arg12 harg12 arg13 harg13 arg14 harg14 arg15 harg15 c
                (dxOf (accLast (gNext B (dzOf DH Z) G) AT (accNext W S (dzOf DH Z) ACC))) (daUpto (gNext B (dzOf DH Z) G) X 7) (dbOf XA (dzOf DH Z)) (k1_pay4 (gNext B (dzOf DH Z) G)) (dzOf DH Z)
                (accLast (gNext B (dzOf DH Z) G) AT (accNext W S (dzOf DH Z) ACC)) (gNext B (dzOf DH Z) G)
            ∗ junk (F := F) arg16 harg16 arg17 harg17 arg18 c)) := by
  simp only [cc1_main_eq_skeleton]; unfold cc1_main_skel
  unfold ins outs junk
  iintro ⟨⟨H1, H2, H3, H4, H5, H6, H7, H8⟩, ⟨H9, H10, H11, H12, H13, H14, H15⟩, ⟨H16, H17, HS, HO⟩⟩
  sl_exec (disch := first | sl_exact h1 | sl_exact h2)
  sl_for (inv2 arg1 harg1 arg2 harg2 arg13 harg13 c DH Z X13) $$ [H1 H2 H13]
  · intro k acc
    exact trip2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i DH Z X13 k acc
  · unfold inv2
    rw [upto_zero]
    isplitl [H1]; · iexact H1
    isplitl [H2]; · iexact H2
    iexact H13
  iintro %a2 HI; unfold inv2; icases HI with ⟨H1, H2, H13⟩
  rw [upto_chunk _ trips2]
  sl_exec (disch := first | sl_exact h1 | sl_exact h2)
  sl_for (inv3 arg3 harg3 arg4 harg4 arg13 harg13 arg14 harg14 c W S (dzOf DH Z) ACC) $$ [H3 H4 H13 H14]
  · intro k acc
    exact trip3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i W S (dzOf DH Z) ACC k acc
  · unfold inv3
    rw [upto_zero]
    isplitl [H3]; · iexact H3
    isplitl [H4]; · iexact H4
    isplitl [H13]; · iexact H13
    iexact H14
  iintro %a3 HI; unfold inv3; icases HI with ⟨H3, H4, H13, H14⟩
  rw [upto_slab _ trips3]
  sl_exec (disch := first | sl_exact h1 | sl_exact h2)
  have eg : arg15.view.read (Elt F) (arg15.view.writes (Elt F) arg15.view.junk (body_last.sl.H15_2 arg5 harg5 arg13 harg13 arg15 harg15 DH Z B G)) = gNext B (dzOf DH Z) G := by
    unfold body_last.sl.H15_2 body_last.sl.v26
    rw [View.read_writes_cons_put _ _ _ _ _ rfl, View.read_writes_cons_put _ _ _ _ _ rfl,
      rd harg15 G inb_S2x32x1792_S1x32x1792_1_0_0 rfl (inb_g 1), rd harg15 G inb_S2x32x1792_S1x32x1792_0_0_0 rfl (inb_g 0),
      rd harg5 B inb_S2x32x256_S1x32x256_1_0_0 rfl (inb_b 1), rd harg5 B inb_S2x32x256_S1x32x256_0_0_0 rfl (inb_b 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  have ev : body_last.sl.v50 arg5 harg5 arg13 harg13 arg15 harg15 DH Z B G = gNext B (dzOf DH Z) G := by
    unfold body_last.sl.v50 View.readCov
    rw [View.readAt_full]
    exact eg
  have ed : arg11.view.read (Elt F) (arg11.view.writes (Elt F) arg11.view.junk (body_last.sl.H11_2 arg6 harg6 arg13 harg13 DH Z XA)) = dbOf XA (dzOf DH Z) := by
    unfold body_last.sl.H11_2 body_last.sl.r
    rw [View.read_writes_cons_put _ _ _ _ _ rfl, View.read_writes_cons_put _ _ _ _ _ rfl,
      rd harg6 XA inb_S64x1792_S32x1792_32_0 rfl (inb_xa 1), rd harg6 XA inb_S64x1792_S32x1792_0_0 rfl (inb_xa 0),
      rd harg13 (dzOf DH Z) inb_S2x1792x256_S1x1792x256_1_0_0 rfl (inb_dz 1), rd harg13 (dzOf DH Z) inb_S2x1792x256_S1x1792x256_0_0_0 rfl (inb_dz 0)]
    exact put_halves _ _ _
  rw [ev]
  ihave H15 := (at_of c arg15 harg15 (gNext B (dzOf DH Z) G)) $$ [H15]
  · iexists _
    isplitl [H15]; · iexact H15
    ipureintro
    exact eg
  sl_for (inv4 arg7 harg7 arg14 harg14 c (gNext B (dzOf DH Z) G) AT (accNext W S (dzOf DH Z) ACC)) $$ [H7 H14]
  · intro k acc
    exact trip4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd Set.univ i h2 (gNext B (dzOf DH Z) G) AT (accNext W S (dzOf DH Z) ACC) k acc
  · unfold inv4
    rw [upto_zero]
    isplitl [H7]; · iexact H7
    iexact H14
  iintro %a4 HI; unfold inv4; icases HI with ⟨H7, H14⟩
  rw [upto_slab _ trips4]
  sl_exec
  ihave H10 := (at_of c arg10 harg10 (daUpto (gNext B (dzOf DH Z) G) X 0)) $$ [H10]
  · iexists _
    isplitl [H10]; · iexact H10
    ipureintro
    exact View.read_writes_full _ _ _ _ _
  sl_for (inv5 arg8 harg8 arg9 harg9 arg10 harg10 arg14 harg14 arg15 harg15 arg16 harg16 arg17 harg17 arg18 c (gNext B (dzOf DH Z) G) (accLast (gNext B (dzOf DH Z) G) AT (accNext W S (dzOf DH Z) ACC)) X DX) $$ [H14 H15 H8 H10 H17 HS H16 H9 HO]
  · intro k acc
    exact trip5 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c 𝒱 bd i h2 (gNext B (dzOf DH Z) G) (accLast (gNext B (dzOf DH Z) G) AT (accNext W S (dzOf DH Z) ACC)) X DX k acc
  · unfold inv5
    rw [upto_zero]
    isplitl [H14]; · iexact H14
    isplitl [H15]; · iexact H15
    isplitl [H8]; · iexact H8
    isplitl [H10]; · iexact H10
    isplitl [H17]; · iexact H17
    isplitl [HS]; · iexact HS
    isplitl [H16]; · iexact H16
    isplitl [H9]; · iexact H9
    iexact HO
  iintro %a5 HI; unfold inv5; icases HI with ⟨H14, H15, H8, H10, H17, HS, H16, H9, HO⟩
  rw [upto_tile _ trips5, trips5]
  sl_exec
  sl_step
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitr [H16 H17 HS HO]
  · isplitl [H9]; · iexact H9
    isplitl [H10]; · iexact H10
    isplitl [H11]
    · iapply at_of
      iexists _
      isplitl [H11]; · iexact H11
      ipureintro
      exact ed
    isplitl [H12]
    · iapply at_of
      iexists _
      isplitl [H12]; · iexact H12
      ipureintro
      unfold body_last.sl.H12_1
      rw [View.read_writes_full, ev]
    isplitl [H13]; · iexact H13
    isplitl [H14]; · iexact H14
    iexact H15
  isplitl [H16]; · iexact H16
  isplitl [H17]; · iexact H17
  isplitl [HS]; · iexact HS
  iexact HO

end Cert.KernelIdeal.Gen

end
-- ==== Proof.KI.Region1.lean ====
/- The main kernel of the program, run by the pipeline: what its state is before each grid point, and that its body keeps it so. -/
module

public import proofs.«01_k».proof.Proof.Slabs
public import proofs.«01_k».proof.Proof.Gen.KernelIdeal.Launch
public import proofs.«01_k».proof.Proof.Gen.KernelIdeal.Skeleton
public import proofs.«01_k».proof.Proof.Gen.KernelIdeal.Points
public import proofs.«01_k».proof.Proof.KI.Body
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions -/

theorem hcond1 : ∀ t : Fin cfg1.N, k1_cond1 (grid1.coords t) = 1#1 ↔ t.val = 0 :=
  (fun t => by
    have ht : t.val < 74 := Nat.lt_of_lt_of_eq t.isLt N_1
    have e0 : (grid1.coords t 0).val = t.val / 1 % 74 := Pipeline.Grid.coords_val t 0 (by decide) rfl
    simp only [k1_cond1, e0]
    word_cmp
   : ∀ t : Fin grid1.N, k1_cond1 (grid1.coords t) = 1#1 ↔ t.val = 0)

theorem hcond2 : ∀ t : Fin cfg1.N, k1_cond2 (grid1.coords t) = 1#1 ↔ t.val = 73 :=
  (fun t => by
    have ht : t.val < 74 := Nat.lt_of_lt_of_eq t.isLt N_1
    have e0 : (grid1.coords t 0).val = t.val / 1 % 74 := Pipeline.Grid.coords_val t 0 (by decide) rfl
    simp only [k1_cond2, e0]
    word_cmp
   : ∀ t : Fin grid1.N, k1_cond2 (grid1.coords t) = 1#1 ↔ t.val = 73)

theorem N1_lt (t : Fin cfg1.N) : t.val < 74 := lt_of_lt_of_eq t.isLt (show cfg1.N = 74 from N_1)

/-- The last point. -/
def tLast : Fin cfg1.N := ⟨73, lt_of_lt_of_eq (by decide : 73 < 74) (show cfg1.N = 74 from N_1).symm⟩

/-! ## What has been computed before each point -/

/-- The cotangents of the two projections at a point. -/
def dzAt (c : Dev nD) (t : Fin cfg1.N) : Vec F S2x1792x256 .bf16 := dzOf (iblk1 V c 0 t) (iblk1 V c 1 t)

/-- The accumulator before point `n`. -/
def accAt (c : Dev nD) : (n : ℕ) → n ≤ cfg1.N → Vec F S14x1792x256 .f32
  | 0, _ => accZero
  | n + 1, h => accNext (iblk1 V c 2 ⟨n, h⟩) (iblk1 V c 3 ⟨n, h⟩) (dzAt V c ⟨n, h⟩) (accAt c n (Nat.le_of_lt h))

/-- The projected cotangents before point `n`. -/
def gAt (c : Dev nD) : (n : ℕ) → n ≤ cfg1.N → Vec F S2x32x1792 .f32
  | 0, _ => k1_pay30
  | n + 1, h => gNext (iblk1 V c 4 ⟨n, h⟩) (dzAt V c ⟨n, h⟩) (gAt c n (Nat.le_of_lt h))

/-- The projected cotangents at the end. -/
def gEnd (c : Dev nD) : Vec F S2x32x1792 .f32 := gAt V c (73 + 1) tLast.isLt
/-- The accumulator at the end, the low-rank term added. -/
def accEnd (c : Dev nD) : Vec F S14x1792x256 .f32 := accLast (gEnd V c) (iblk1 V c 6 tLast) (accAt V c (73 + 1) tLast.isLt)
/-- The gradient of the other low-rank factor. -/
def daEnd (c : Dev nD) : Vec F S64x3584 .f32 := daUpto (gEnd V c) (V c main_v0) 7
/-- The projected cotangents, rounded. -/
def gOut (c : Dev nD) : Vec F S64x1792 .bf16 := k1_pay4 (gEnd V c)
/-- The gradient of the input. -/
def dxEnd (c : Dev nD) : Vec F S1792x3584 .bf16 := dxOf (accEnd V c)
/-- A point's block of the gradient of the low-rank factor. -/
def dbAt (c : Dev nD) (t : Fin cfg1.N) : Vec F S2x32x256 .f32 := dbOf (iblk1 V c 5 t) (dzAt V c t)

/-- The array of the input's gradient before point `n`: written at the last point only. -/
def dxAt (c : Dev nD) (n : ℕ) : Vec F S1792x3584 .bf16 := if n = 74 then dxEnd V c else V c main_v7_0

/-- What the two accumulators hold before point `n`. -/
def StateAt (c : Dev nD) (n : ℕ) (hn : n ≤ cfg1.N) (ACC : Vec F S14x1792x256 .f32) (G : Vec F S2x32x1792 .f32) : Prop :=
  0 < n → n < 74 → ACC = accAt V c n hn ∧ G = gAt V c n hn

/-! ## The memrefs of a point -/

abbrev ms1_0 (t : Fin cfg1.N) : Memref sig .tc .vmem S1792x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1792x2x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x1792x256 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S28x2x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x32x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x1792 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x3584 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x3584 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x32x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x1792 .bf16 := win1_9.stage (cfg1.slots t 9)
abbrev hs1_9 (t : Fin cfg1.N) : (ms1_9 t).IsWhole := hstage1_9 ((cfg1.slots t 9).cast nbuf1_9)
abbrev scM1_0 : Memref sig .tc .vmem S2x1792x256 .bf16 := Memref.whole cc1_scratch0
abbrev scM1_1 : Memref sig .tc .vmem S14x1792x256 .f32 := Memref.whole cc1_scratch1
abbrev scM1_2 : Memref sig .tc .vmem S2x32x1792 .f32 := Memref.whole cc1_scratch2
abbrev scM1_3 : Memref sig .tc .vmem S256x3584 .bf16 := Memref.whole cc1_scratch3
abbrev scM1_4 : Memref sig .tc .vmem S256x3584 .bf16 := Memref.whole cc1_scratch4

theorem unread_whole (b : Ref sig .tc) (X : b.ty.shape.Idx → Elt F b.ty.elt) : (Memref.isWhole_whole b).unread X = X :=
  ((Memref.isWhole_whole b).eq_unread (f := X) (View.read_whole _ _)).symm

/-- The input array the last point copies from. -/
abbrev mv0 : Memref sig .tc .hbm S1792x3584 .bf16 := Memref.whole main_v0
theorem hmv0 : mv0.IsWhole := Memref.isWhole_whole _
/-- The output array the last point copies to. -/
abbrev mv7 : Memref sig .tc .hbm S1792x3584 .bf16 := Memref.whole main_v7_0
theorem hmv7 : mv7.IsWhole := Memref.isWhole_whole _
theorem pts_v0 (c : Dev nD) (X : Vec F S1792x3584 .bf16) :
    (mv0.view.loc (c : Thread nD τ) ↦{fullShare} hmv0.unread X : sProp 𝕄) = (((c : Thread nD τ).loc main_v0) ↦{fullShare} X) :=
  congrArg (fun Y => (((c : Thread nD τ).loc main_v0) ↦{fullShare} Y : sProp 𝕄)) (unread_whole main_v0 X)
theorem pts_v7 (c : Dev nD) (X : Vec F S1792x3584 .bf16) :
    (mv7.view.loc (c : Thread nD τ) ↦{fullShare} hmv7.unread X : sProp 𝕄) = (((c : Thread nD τ).loc main_v7_0) ↦{fullShare} X) :=
  congrArg (fun Y => (((c : Thread nD τ).loc main_v7_0) ↦{fullShare} Y : sProp 𝕄)) (unread_whole main_v7_0 X)

theorem at_whole (c : Dev nD) (b : Ref sig .tc) (X : b.ty.shape.Idx → Elt F b.ty.elt) :
    (at_ (F := F) c (Memref.whole b) (Memref.isWhole_whole b) X : sProp 𝕄) = (((c : Thread nD τ).loc b) ↦{fullShare} X) := by
  unfold at_
  rw [unread_whole]
  simp only [Memref.view_whole, View.set_whole]

theorem at_of_owns (c : Dev nD) {sp : Space} {s : Shape} {e : EltTy} (a : Memref sig .tc sp s e) (h : a.IsWhole) (x : s.Idx → Elt F e) :
    (owns (c : Thread nD τ) a fullShare x : sProp 𝕄) ⊢ at_ (F := F) c a h x := by
  unfold owns
  iintro ⟨%f, %e, H⟩
  iapply at_of
  iexists f
  isplitl [H]; · iexact H
  ipureintro; exact e

theorem owns_of_at (c : Dev nD) {sp : Space} {s : Shape} {e : EltTy} (a : Memref sig .tc sp s e) (h : a.IsWhole) (x : s.Idx → Elt F e) :
    at_ (F := F) c a h x ⊢ (owns (c : Thread nD τ) a fullShare x : sProp 𝕄) := by
  unfold owns
  iintro H
  iexists _
  isplitr; swap; · iexact H
  ipureintro; exact h.read_unread x

/-- The kernel's own semaphore. -/
abbrev osem1 : Fin 1 → SemLoc sig := fun j => (![SemLoc.dma 21] : Fin 1 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 21) 0) := by
  rw [Pipeline.ownSems0_eq_of_list c osem1 [0] (by decide) (by decide)]; rfl
/-- The arrays the body copies from and to itself. -/
def H1 : Finset (Ref sig .tc) := {main_v0, main_v7_0}
theorem H1_sub : H1 ⊆ Pipeline.restRefs sig spec1 := by decide
theorem H1_eq (c : Dev nD) (f : (b : Ref sig .tc) → Buf (Elt F) ((c : Thread nD τ).loc b)) :
    (bigSep H1 (fun b => ((c : Thread nD τ).loc b) ↦{fullShare} f b) : sProp 𝕄)
      = iprop((((c : Thread nD τ).loc main_v0) ↦{fullShare} f main_v0) ∗ (((c : Thread nD τ).loc main_v7_0) ↦{fullShare} f main_v7_0)) := by
  rw [BI.bigSep_eq_bigSepL_of_eq [main_v0, main_v7_0] (by decide) (by decide)]; rfl

/-! ## The invariant and the proof data -/

/-- What the region does not touch. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ ∃ r, prngReg c r)

/-- The kernel's scratch, own semaphore and own arrays at point `n`. -/
def own1 (c : Dev nD) (n : ℕ) (hn : n ≤ cfg1.N) : sProp 𝕄 :=
  iprop((∃ X13 ACC G, ⌜StateAt V c n hn ACC G⌝
      ∗ at_ (F := F) c scM1_0 (Memref.isWhole_whole _) X13 ∗ at_ (F := F) c scM1_1 (Memref.isWhole_whole _) ACC ∗ at_ (F := F) c scM1_2 (Memref.isWhole_whole _) G)
    ∗ (∃ x, at_ (F := F) c scM1_3 (Memref.isWhole_whole _) x) ∗ (∃ x, at_ (F := F) c scM1_4 (Memref.isWhole_whole _) x)
    ∗ semVal ((c : Thread nD τ), SemLoc.dma 21) 0
    ∗ (((c : Thread nD τ).loc main_v0) ↦{fullShare} V c main_v0) ∗ (((c : Thread nD τ).loc main_v7_0) ↦{fullShare} dxAt V c n))

def Phi1 (c : Dev nD) (n : ℕ) (hn : n ≤ cfg1.N) : sProp 𝕄 := iprop(rest1 (F := F) c ∗ own1 V c n hn)

/-- The proof data: the arrays as the region finds them; after the body each input's buffer at its block, the outputs' at the
    values computed; the invariant above; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => daEnd V c
    | ⟨8, _⟩ => dbAt V c t
    | ⟨9, _⟩ => gOut V c
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) : (dat1 V c).Φ t.castSucc = Phi1 V c t.val (Nat.le_of_lt t.isLt) := by
  dsimp only [dat1]; exact Pipeline.Dat.Φ_castSucc (Phi1 V c) t
theorem Phi1_succ (c : Dev nD) (t : Fin cfg1.N) : (dat1 V c).Φ t.succ = Phi1 V c (t.val + 1) t.isLt := by
  dsimp only [dat1]; rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = daEnd V c := by dsimp only [dat1]
theorem after1_8 (c : Dev nD) (t : Fin cfg1.N) : (dat1 V c).after 8 t = dbAt V c t := by dsimp only [dat1]
theorem after1_9 (c : Dev nD) (t : Fin cfg1.N) : (dat1 V c).after 9 t = gOut V c := by dsimp only [dat1]

/-- An input's current buffer holds its block at every point, fetched there or not. -/
theorem before1_in (c : Dev nD) (w : Fin cfg1.W) (hw : (cfg1.win w).isOut = false) (hi : ∀ i, cfg1.idle w i = false)
    (hc : ∀ t t' : Fin cfg1.N, (cfg1.win w).index t = (cfg1.win w).index t' → (cfg1.win w).clip (cfg1.grid.coords t) = (cfg1.win w).clip (cfg1.grid.coords t'))
    (hk : ∀ t, (cfg1.win w).cut (cfg1.grid.coords t) ((dat1 V c).after w t) = (dat1 V c).blockOf w t) {X : (cfg1.win w).block.Idx → Elt F (cfg1.win w).elt}
    (t : Fin cfg1.N) (d) (hf : (dat1 V c).fetched w t d = X) : (dat1 V c).before w t d = X :=
  ((dat1 V c).before_in_eq_fetched w hw hi hc hk t d).trans hf

theorem before1_0 (c : Dev nD) (t : Fin cfg1.N) (d) : (dat1 V c).before 0 t d = iblk1 V c 0 t :=
  before1_in V c 0 rfl (fun _ => rfl) (fun _ _ _ => rfl) (fun t => by rw [after1_0]; unfold Dat.blockOf iblk1; rw [A_eq1]; try rfl) t d
    (by unfold Dat.fetched Dat.blockOf iblk1; rw [A_eq1]; try rfl)
theorem before1_1 (c : Dev nD) (t : Fin cfg1.N) (d) : (dat1 V c).before 1 t d = iblk1 V c 1 t :=
  before1_in V c 1 rfl (fun _ => rfl) (fun _ _ _ => rfl) (fun t => by rw [after1_1]; unfold Dat.blockOf iblk1; rw [A_eq1]; try rfl) t d
    (by unfold Dat.fetched Dat.blockOf iblk1; rw [A_eq1]; try rfl)
theorem before1_2 (c : Dev nD) (t : Fin cfg1.N) (d) : (dat1 V c).before 2 t d = iblk1 V c 2 t :=
  before1_in V c 2 rfl (fun _ => rfl) (fun _ _ _ => rfl) (fun t => by rw [after1_2]; unfold Dat.blockOf iblk1; rw [A_eq1]; try rfl) t d
    (by unfold Dat.fetched Dat.blockOf iblk1; rw [A_eq1]; try rfl)
theorem before1_3 (c : Dev nD) (t : Fin cfg1.N) (d) : (dat1 V c).before 3 t d = iblk1 V c 3 t :=
  before1_in V c 3 rfl (fun _ => rfl) (fun _ _ _ => rfl) (fun t => by rw [after1_3]; unfold Dat.blockOf iblk1; rw [A_eq1]; try rfl) t d
    (by unfold Dat.fetched Dat.blockOf iblk1; rw [A_eq1]; try rfl)
theorem before1_4 (c : Dev nD) (t : Fin cfg1.N) (d) : (dat1 V c).before 4 t d = iblk1 V c 4 t :=
  before1_in V c 4 rfl (fun _ => rfl) (fun _ _ _ => rfl) (fun t => by rw [after1_4]; unfold Dat.blockOf iblk1; rw [A_eq1]; try rfl) t d
    (by unfold Dat.fetched Dat.blockOf iblk1; rw [A_eq1]; try rfl)
theorem before1_5 (c : Dev nD) (t : Fin cfg1.N) (d) : (dat1 V c).before 5 t d = iblk1 V c 5 t :=
  before1_in V c 5 rfl (fun _ => rfl) (fun _ _ _ => rfl) (fun t => by rw [after1_5]; unfold Dat.blockOf iblk1; rw [A_eq1]; try rfl) t d
    (by unfold Dat.fetched Dat.blockOf iblk1; rw [A_eq1]; try rfl)
theorem before1_6 (c : Dev nD) (t : Fin cfg1.N) (d) : (dat1 V c).before 6 t d = iblk1 V c 6 t :=
  before1_in V c 6 rfl (fun _ => rfl) (fun _ _ _ => rfl) (fun t => by rw [after1_6]; unfold Dat.blockOf iblk1; rw [A_eq1]; try rfl) t d
    (by unfold Dat.fetched Dat.blockOf iblk1; rw [A_eq1]; try rfl)

/-! ## The body obligation -/

/-- The memrefs not written, at a point. -/
abbrev insAt (c : Dev nD) (t : Fin cfg1.N) : sProp 𝕄 := ins (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) mv0 hmv0 c (iblk1 V c 0 t) (iblk1 V c 1 t) (iblk1 V c 2 t) (iblk1 V c 3 t) (iblk1 V c 4 t) (iblk1 V c 5 t) (iblk1 V c 6 t) (V c main_v0)
/-- The memrefs written, at a point. -/
abbrev outsAt (c : Dev nD) (t : Fin cfg1.N) (DX : Vec F S1792x3584 .bf16) (X10 : Vec F S64x3584 .f32) (X11 : Vec F S2x32x256 .f32) (X12 : Vec F S64x1792 .bf16) (X13 : Vec F S2x1792x256 .bf16)
    (ACC : Vec F S14x1792x256 .f32) (G : Vec F S2x32x1792 .f32) : sProp 𝕄 := outs mv7 hmv7 (ms1_7 t) (hs1_7 t) (ms1_8 t) (hs1_8 t) (ms1_9 t) (hs1_9 t) scM1_0 (Memref.isWhole_whole _) scM1_1 (Memref.isWhole_whole _) scM1_2 (Memref.isWhole_whole _) c DX X10 X11 X12 X13 ACC G
/-- The rest of the scratch. -/
abbrev junkAt (c : Dev nD) : sProp 𝕄 := junk (F := F) scM1_3 (Memref.isWhole_whole _) scM1_4 (Memref.isWhole_whole _) cc1_scratch5 c

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ (dat1 V c).leavesExact 7 t
    ∗ owns (c : Thread nD τ) (ms1_8 t) fullShare ((dat1 V c).after 8 t)
    ∗ (dat1 V c).leavesExact 9 t)

set_option maxHeartbeats 1000000 in
/-- What the pipeline hands the body, as the body takes it. -/
theorem pre_split (c : Dev nD) (t : Fin cfg1.N) :
    bodyPre1 V c t ⊢ iprop(∃ X10 X11 X12 X13 ACC G, ⌜StateAt V c t.val (Nat.le_of_lt t.isLt) ACC G ∧ (∃ d, X10 = (dat1 V c).before 7 t d) ∧ (∃ d, X12 = (dat1 V c).before 9 t d)⌝
      ∗ rest1 (F := F) c ∗ insAt V c t ∗ outsAt c t (dxAt V c t.val) X10 X11 X12 X13 ACC G ∗ junkAt (F := F) c) := by
  unfold bodyPre1
  simp only [before1_0, before1_1, before1_2, before1_3, before1_4, before1_5, before1_6]
  rw [Phi1_castSucc]
  unfold Dat.owesAt Pipeline.owesWithin Phi1 own1 insAt outsAt junkAt ins outs junk
  rw [show (dat1 V c).owed t.castSucc = 0 from rfl]
  rw [pts_v0, pts_v7]
  iintro ⟨⟨HR, ⟨%X13, %ACC, %G, %hst, H13, H14, H15⟩, H16, H17, HS, Hx, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iexists _, _, _, _, _, _
  isplitr
  · ipureintro
    exact ⟨hst, ⟨d7, rfl⟩, ⟨d9, rfl⟩⟩
  isplitl [HR]; · iexact HR
  isplitl [H0 H1 H2 H3 H4 H5 H6 Hx]
  · isplitl [H0]; · iapply at_of_owns; iexact H0
    isplitl [H1]; · iapply at_of_owns; iexact H1
    isplitl [H2]; · iapply at_of_owns; iexact H2
    isplitl [H3]; · iapply at_of_owns; iexact H3
    isplitl [H4]; · iapply at_of_owns; iexact H4
    isplitl [H5]; · iapply at_of_owns; iexact H5
    isplitl [H6]; · iapply at_of_owns; iexact H6
    iexact Hx
  isplitl [Hd H7 H8 H9 H13 H14 H15]
  · isplitl [Hd]; · iexact Hd
    isplitl [H7]; · iapply at_of_owns; iexact H7
    isplitl [H8]; · iapply at_of_owns; iexact H8
    isplitl [H9]; · iapply at_of_owns; iexact H9
    isplitl [H13]; · iexact H13
    isplitl [H14]; · iexact H14
    iexact H15
  isplitl [H16]; · iexact H16
  isplitl [H17]; · iexact H17
  isplitl [HS]; · iexact HS
  iexists W; iexact HW

set_option maxHeartbeats 1000000 in
/-- What the body returns, as the pipeline takes it back. -/
theorem post_join (c : Dev nD) (t : Fin cfg1.N) (DX : Vec F S1792x3584 .bf16) (X10 : Vec F S64x3584 .f32) (X12 : Vec F S64x1792 .bf16)
    (ACC : Vec F S14x1792x256 .f32) (G : Vec F S2x32x1792 .f32) (hD : DX = dxAt V c (t.val + 1)) (hst : StateAt V c (t.val + 1) t.isLt ACC G)
    (h7 : (owns (c : Thread nD τ) (ms1_7 t) fullShare X10 : sProp 𝕄) ⊢ (dat1 V c).leavesExact 7 t)
    (h9 : (owns (c : Thread nD τ) (ms1_9 t) fullShare X12 : sProp 𝕄) ⊢ (dat1 V c).leavesExact 9 t) :
    iprop(rest1 (F := F) c ∗ insAt V c t ∗ outsAt c t DX X10 (dbAt V c t) X12 (dzAt V c t) ACC G ∗ junkAt (F := F) c) ⊢ bodyPost1 V c t := by
  subst hD
  unfold bodyPost1
  rw [Phi1_succ, after1_0, after1_1, after1_2, after1_3, after1_4, after1_5, after1_6, after1_8]
  unfold Dat.owesAt Pipeline.owesWithin Phi1 own1 insAt outsAt junkAt ins outs junk
  rw [show (dat1 V c).owed t.succ = 0 from rfl]
  rw [pts_v0, pts_v7]
  iintro ⟨HR, ⟨H0, H1, H2, H3, H4, H5, H6, Hx⟩, ⟨Hd, H7, H8, H9, H13, H14, H15⟩, H16, H17, HS, ⟨%W, HW⟩⟩
  isplitl [HR H13 H14 H15 H16 H17 HS Hx Hd]
  · isplitl [HR]; · iexact HR
    isplitl [H13 H14 H15]
    · iexists _, _, _
      isplitr; · ipureintro; exact hst
      isplitl [H13]; · iexact H13
      isplitl [H14]; · iexact H14
      iexact H15
    isplitl [H16]; · iexact H16
    isplitl [H17]; · iexact H17
    isplitl [HS]; · iexact HS
    isplitl [Hx]; · iexact Hx
    iexact Hd
  isplitl [HW]
  · iexists W; isplitr; · ipureintro; exact fun _ _ => Or.inl trivial
    iexact HW
  isplitl [H0]; · iapply owns_of_at; iexact H0
  isplitl [H1]; · iapply owns_of_at; iexact H1
  isplitl [H2]; · iapply owns_of_at; iexact H2
  isplitl [H3]; · iapply owns_of_at; iexact H3
  isplitl [H4]; · iapply owns_of_at; iexact H4
  isplitl [H5]; · iapply owns_of_at; iexact H5
  isplitl [H6]; · iapply owns_of_at; iexact H6
  isplitl [H7]
  · iapply h7; iapply owns_of_at; iexact H7
  isplitl [H8]; · iapply owns_of_at; iexact H8
  iapply h9; iapply owns_of_at; iexact H9

theorem idle7 (t : Fin cfg1.N) (h : ¬ t.val = 73) : cfg1.idle 7 (cfg1.grid.coords t) = true := by
  show (!(k1_cond2 (grid1.coords t) == 1#1)) = true
  rw [beq_eq_false_iff_ne.mpr (fun e => h ((hcond2 t).mp e))]; rfl
theorem live7 (t : Fin cfg1.N) (h : t.val = 73) : cfg1.idle 7 (cfg1.grid.coords t) = false := by
  show (!(k1_cond2 (grid1.coords t) == 1#1)) = false
  rw [(hcond2 t).mpr h]; rfl
theorem noflush7 (t : Fin cfg1.N) (h : ¬ t.val = 73) : (cfg1.win 7).flush t = false :=
  Bool.eq_false_iff.mpr fun e => by have := (flush1_7 t).mp e; have := N1_lt t; omega
theorem noflush9 (t : Fin cfg1.N) (h : ¬ t.val = 73) : (cfg1.win 9).flush t = false :=
  Bool.eq_false_iff.mpr fun e => by have := (flush1_9 t).mp e; have := N1_lt t; omega

theorem idle9 (t : Fin cfg1.N) (h : ¬ t.val = 73) : cfg1.idle 9 (cfg1.grid.coords t) = true := idle7 t h

theorem leaves7_idle (c : Dev nD) (t : Fin cfg1.N) (h : ¬ t.val = 73) (d) :
    (owns (c : Thread nD τ) (ms1_7 t) fullShare ((dat1 V c).before 7 t d) : sProp 𝕄) ⊢ (dat1 V c).leavesExact 7 t := by
  rw [Dat.leavesExact_idle _ 7 t (idle7 t h) (noflush7 t h)]
  iintro H; iexists d; iexact H
theorem leaves9_idle (c : Dev nD) (t : Fin cfg1.N) (h : ¬ t.val = 73) (d) :
    (owns (c : Thread nD τ) (ms1_9 t) fullShare ((dat1 V c).before 9 t d) : sProp 𝕄) ⊢ (dat1 V c).leavesExact 9 t := by
  rw [Dat.leavesExact_idle _ 9 t (idle9 t h) (noflush9 t h)]
  iintro H; iexists d; iexact H
theorem leaves7_last (c : Dev nD) (t : Fin cfg1.N) (h : t.val = 73) :
    (owns (c : Thread nD τ) (ms1_7 t) fullShare (daEnd V c) : sProp 𝕄) ⊢ (dat1 V c).leavesExact 7 t := by
  unfold Dat.leavesExact; rw [live7 t h, after1_7]
theorem leaves9_last (c : Dev nD) (t : Fin cfg1.N) (h : t.val = 73) :
    (owns (c : Thread nD τ) (ms1_9 t) fullShare (gOut V c) : sProp 𝕄) ⊢ (dat1 V c).leavesExact 9 t := by
  unfold Dat.leavesExact; rw [show cfg1.idle 9 (cfg1.grid.coords t) = false from live7 t h, after1_9]

theorem dxAt_of_ne (c : Dev nD) {n : ℕ} (h : n ≠ 74) : dxAt V c n = V c main_v7_0 := if_neg h
theorem dxAt_end (c : Dev nD) : dxAt V c 74 = dxEnd V c := if_pos rfl

/-- A body triple between the two forms is the body's obligation. -/
theorem body_wrap {c : Dev nD} {t : Fin cfg1.N} {A R A' : sProp 𝕄} (h : A ⊢ wp frame (wpE (defs₀ (F := F)) Variants.none (c : Thread nD τ) none) Set.univ (bodyAt1 t) (fun _ => A'))
    (h' : iprop(R ∗ A') ⊢ bodyPost1 V c t) : iprop(R ∗ A) ⊢ wp frame (wpE (defs₀ (F := F)) Variants.none (c : Thread nD τ) none) Set.univ (bodyAt1 t) (fun _ => bodyPost1 V c t) :=
  (sep_mono .rfl h).trans ((wp_frame_l _ _ _).trans (wp_mono _ _ _ fun _ => h'))

set_option maxHeartbeats 1000000 in
theorem sound_body1 (c : Dev nD) (t : Fin cfg1.N) :
    bodyPre1 V c t ⊢ wp frame (wpE (defs₀ (F := F)) Variants.none (c : Thread nD τ) none) Set.univ (bodyAt1 t) (fun _ => bodyPost1 V c t) := by
  refine (pre_split V c t).trans ?_
  iintro ⟨%X10, %X11, %X12, %X13, %ACC, %G, ⟨%hst, ⟨%d7, %e7⟩, ⟨%d9, %e9⟩⟩, H⟩
  subst e7 e9
  have hN := N1_lt t
  by_cases h0 : t.val = 0
  · obtain ⟨n, hn⟩ := t
    obtain rfl : n = 0 := h0
    have h073 : ¬ (0 : ℕ) = 73 := by decide
    iapply (body_wrap V (body_first (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) mv0 hmv0 mv7 hmv7 (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) scM1_3 (Memref.isWhole_whole _) scM1_4 (Memref.isWhole_whole _) cc1_scratch5 c Variants.none none (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (V c main_v0) _ _ _ _ _ _ _ ((hcond1 ⟨0, hn⟩).mpr rfl) (fun e => absurd ((hcond2 ⟨0, hn⟩).mp e) h073))
      (post_join V c ⟨0, hn⟩ _ _ _ _ _ rfl (fun _ _ => ⟨rfl, rfl⟩) (leaves7_idle V c ⟨0, hn⟩ h073 d7) (leaves9_idle V c ⟨0, hn⟩ h073 d9)))
    iexact H
  · obtain ⟨n, hn⟩ := t
    have h0' : 0 < n := Nat.pos_of_ne_zero h0
    obtain ⟨rfl, rfl⟩ := hst h0' hN
    by_cases h73 : n = 73
    · subst h73
      iapply (body_wrap V (body_last (ms1_0 ⟨73, hn⟩) (hs1_0 ⟨73, hn⟩) (ms1_1 ⟨73, hn⟩) (hs1_1 ⟨73, hn⟩) (ms1_2 ⟨73, hn⟩) (hs1_2 ⟨73, hn⟩) (ms1_3 ⟨73, hn⟩) (hs1_3 ⟨73, hn⟩) (ms1_4 ⟨73, hn⟩) (hs1_4 ⟨73, hn⟩) (ms1_5 ⟨73, hn⟩) (hs1_5 ⟨73, hn⟩) (ms1_6 ⟨73, hn⟩) (hs1_6 ⟨73, hn⟩) mv0 hmv0 mv7 hmv7 (ms1_7 ⟨73, hn⟩) (hs1_7 ⟨73, hn⟩) (ms1_8 ⟨73, hn⟩) (hs1_8 ⟨73, hn⟩) (ms1_9 ⟨73, hn⟩) (hs1_9 ⟨73, hn⟩) scM1_0 (Memref.isWhole_whole _) scM1_1 (Memref.isWhole_whole _) scM1_2 (Memref.isWhole_whole _) scM1_3 (Memref.isWhole_whole _) scM1_4 (Memref.isWhole_whole _) cc1_scratch5 c Variants.none none (grid1.coords ⟨73, hn⟩) (iblk1 V c 0 ⟨73, hn⟩) (iblk1 V c 1 ⟨73, hn⟩) (iblk1 V c 2 ⟨73, hn⟩) (iblk1 V c 3 ⟨73, hn⟩) (iblk1 V c 4 ⟨73, hn⟩) (iblk1 V c 5 ⟨73, hn⟩) (iblk1 V c 6 ⟨73, hn⟩) (V c main_v0) _ _ _ _ _ _ _ (fun e => h0 ((hcond1 _).mp e)) ((hcond2 ⟨73, hn⟩).mpr rfl))
        (post_join V c ⟨73, hn⟩ _ _ _ _ _ (dxAt_end V c).symm (fun _ h => absurd h (Nat.lt_irrefl 74)) (leaves7_last V c ⟨73, hn⟩ rfl) (leaves9_last V c ⟨73, hn⟩ rfl)))
      iexact H
    · have hn74 : n < 74 := hN
      iapply (body_wrap V (body_mid (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) mv0 hmv0 mv7 hmv7 (ms1_7 ⟨n, hn⟩) (hs1_7 ⟨n, hn⟩) (ms1_8 ⟨n, hn⟩) (hs1_8 ⟨n, hn⟩) (ms1_9 ⟨n, hn⟩) (hs1_9 ⟨n, hn⟩) scM1_0 (Memref.isWhole_whole _) scM1_1 (Memref.isWhole_whole _) scM1_2 (Memref.isWhole_whole _) scM1_3 (Memref.isWhole_whole _) scM1_4 (Memref.isWhole_whole _) cc1_scratch5 c Variants.none none (grid1.coords ⟨n, hn⟩) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (iblk1 V c 6 ⟨n, hn⟩) (V c main_v0) _ _ _ _ _ _ _ (fun e => h0 ((hcond1 _).mp e)) (fun e => h73 ((hcond2 _).mp e)))
        (post_join V c ⟨n, hn⟩ _ _ _ _ _ ((dxAt_of_ne V c (show n ≠ 74 by omega)).trans (dxAt_of_ne V c (show n + 1 ≠ 74 by omega)).symm) (fun _ _ => ⟨rfl, rfl⟩) (leaves7_idle V c ⟨n, hn⟩ h73 d7) (leaves9_idle V c ⟨n, hn⟩ h73 d9)))
      iexact H

/-- The body table's row at a point is the body. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.KI.Run.lean ====
/- The run of the whole program: what every buffer holds at each boundary between its parts, and at the end. -/
module

public import proofs.«01_k».proof.Proof.Slabs
public import proofs.«01_k».proof.Proof.Gen.KernelIdeal.Launch
public import proofs.«01_k».proof.Proof.Gen.KernelIdeal.Skeleton
public import proofs.«01_k».proof.Proof.Gen.KernelIdeal.Points
public import proofs.«01_k».proof.Proof.KI.Region0
public import proofs.«01_k».proof.Proof.KI.Region1
public import Idealize.ShloMosaic.Lib.Pipeline.Frame
public import Idealize.ShloMosaic.Lib.Pipeline.Regions
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.WholeRead
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slabs

variable {F : FTy → Type} [FloatOps F]

local notation "𝕄" => MT nD τ sig Unit (Elt F) ℕ (Pipeline.UD sig nD τ) ℕ

-- the memory and the generator registers at launch
variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9, main_v10, main_v11, main_v12, main_v13, main_v14]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the main region's exit: its arrays at what the pipeline leaves, the array the body writes itself at the input's
    gradient, every other buffer as entered. -/
def W3 (c : Dev nD) : Valuation τ sig (Elt F) :=
  Function.update (Pipeline.withArrays spec1 c (W2 m ρ c) fun w => (dat1 (V2 m ρ) c).arrAt w cfg1.N)
    (Proc.devRef .tc main_v7_0) (dxEnd (V2 m ρ) c)
theorem W3_dx (c : Dev nD) : W3 m ρ c (Proc.devRef .tc main_v7_0) = dxEnd (V2 m ρ) c := by
  unfold W3; exact Function.update_self ..
theorem W3_ne_dx (c : Dev nD) (b : Ref sig .tc) (h : b ≠ main_v7_0) : W3 m ρ c (Proc.devRef .tc b)
    = Pipeline.withArrays spec1 c (W2 m ρ c) (fun w => (dat1 (V2 m ρ) c).arrAt w cfg1.N) (Proc.devRef .tc b) := by
  unfold W3; exact Function.update_of_ne (fun e => h (Proc.devRef_injective _ e)) ..
theorem arr_ne_dx : ∀ w : Fin cfg1.W, Pipeline.arrRef spec1 w ≠ main_v7_0 := by decide
theorem W3_arr (c : Dev nD) (w : Fin cfg1.W) :
    W3 m ρ c (Proc.devRef .tc (Pipeline.arrRef spec1 w)) = (dat1 (V2 m ρ) c).arrAt w cfg1.N :=
  (W3_ne_dx m ρ c _ (arr_ne_dx w)).trans (Pipeline.withArrays_arr spec1 launch1.win.arr_inj c _ _ w)
theorem W3_of_ne (c : Dev nD) (b : Ref sig .tc) (hb : ∀ w, Pipeline.arrRef spec1 w ≠ b) (h : b ≠ main_v7_0) :
    W3 m ρ c (Proc.devRef .tc b) = W2 m ρ c (Proc.devRef .tc b) :=
  (W3_ne_dx m ρ c b h).trans (Pipeline.withArrays_of_ne spec1 c _ _ b hb)
/-- A reference that is none of the main region's output arrays keeps its entry contents across it. -/
theorem W3_of (c : Dev nD) (r : Ref sig .tc) (h : ∀ w : Fin cfg1.W, Pipeline.arrRef spec1 w = r → (cfg1.win w).isOut = false) (h' : r ≠ main_v7_0) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r (fun w e => hw ⟨w, e⟩) h'
theorem args_ne_dx : ∀ a ∈ argRefs, a ≠ main_v7_0 := ListAll.forall_mem_of_all_decide (by decide +kernel)
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha) (args_ne_dx a ha)).trans (W2_args m ρ c a ha)
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-- An unscoped buffer that is neither an array of the main region nor copied by its body is left as entered. -/
theorem rest_same (c : Dev nD) (b : Ref sig .tc) (hb : b ∈ Pipeline.restRefs sig spec1 \ H1) : V3 m ρ c b = V2 m ρ c b := by
  obtain ⟨h1, h2⟩ := Finset.mem_sdiff.mp hb
  refine W3_of_ne m ρ c b (fun w e => ?_) (fun e => h2 (by rw [e]; decide))
  subst e
  exact absurd h1 ((by decide : ∀ w : Fin cfg1.W, Pipeline.arrRef spec1 w ∉ Pipeline.restRefs sig spec1) w)

section Enter
variable (V : (c : Dev nD) → (b : Ref sig .tc) → Buf (Elt F) ((c : Thread nD τ).loc b))

theorem at_sc0 (c : Dev nD) (X : Vec F S2x1792x256 .bf16) : (at_ (F := F) c scM1_0 (Memref.isWhole_whole _) X : sProp 𝕄) = (((c : Thread nD τ).loc cc1_scratch0) ↦{fullShare} X) := at_whole c cc1_scratch0 X
theorem at_sc1 (c : Dev nD) (X : Vec F S14x1792x256 .f32) : (at_ (F := F) c scM1_1 (Memref.isWhole_whole _) X : sProp 𝕄) = (((c : Thread nD τ).loc cc1_scratch1) ↦{fullShare} X) := at_whole c cc1_scratch1 X
theorem at_sc2 (c : Dev nD) (X : Vec F S2x32x1792 .f32) : (at_ (F := F) c scM1_2 (Memref.isWhole_whole _) X : sProp 𝕄) = (((c : Thread nD τ).loc cc1_scratch2) ↦{fullShare} X) := at_whole c cc1_scratch2 X
theorem at_sc3 (c : Dev nD) (X : Vec F S256x3584 .bf16) : (at_ (F := F) c scM1_3 (Memref.isWhole_whole _) X : sProp 𝕄) = (((c : Thread nD τ).loc cc1_scratch3) ↦{fullShare} X) := at_whole c cc1_scratch3 X
theorem at_sc4 (c : Dev nD) (X : Vec F S256x3584 .bf16) : (at_ (F := F) c scM1_4 (Memref.isWhole_whole _) X : sProp 𝕄) = (((c : Thread nD τ).loc cc1_scratch4) ↦{fullShare} X) := at_whole c cc1_scratch4 X

/-- The invariant at the first point, from what the region is entered with. -/
theorem phi1_enter (c : Dev nD) : iprop((∃ r, prngReg c r)
      ∗ Pipeline.ownSems0 (Ix := Unit) (Name := ℕ) (U := Pipeline.UD sig nD τ) (Lvl := ℕ) (Val := Elt F) (τ := τ) osem1 c
      ∗ (bigSep H1 fun b => (((c : Thread nD τ)).loc b) ↦{fullShare} V c b)
      ∗ Pipeline.scopedRest (Ix := Unit) (Name := ℕ) (U := Pipeline.UD sig nD τ) (Lvl := ℕ) (Val := Elt F) spec1 c)
    ⊢ (Phi1 V c 0 (Nat.zero_le _) : sProp 𝕄) := by
  rw [scopedRest1_eq, H1_eq, ownSems01_eq]
  unfold Phi1 own1 rest1 StateAt
  simp only [at_sc0, at_sc1, at_sc2, at_sc3, at_sc4]
  rw [dxAt_of_ne V c (by decide : (0 : ℕ) ≠ 74)]
  iintro ⟨Hp, Ho, ⟨Hx, Hd⟩, A0, A1, A2, A3, A4, ⟨%f0, S0⟩, ⟨%f1, S1⟩, ⟨%f2, S2⟩, S3, S4⟩
  isplitl [Hp A0 A1 A2 A3 A4]
  · isplitl [A0]; · iexact A0
    isplitl [A1]; · iexact A1
    isplitl [A2]; · iexact A2
    isplitl [A3]; · iexact A3
    isplitl [A4]; · iexact A4
    iexact Hp
  isplitl [S0 S1 S2]
  · iexists f0, f1, f2
    isplitr; · ipureintro; exact fun h => absurd h (Nat.lt_irrefl 0)
    isplitl [S0]; · iexact S0
    isplitl [S1]; · iexact S1
    iexact S2
  isplitl [S3]; · iexact S3
  isplitl [S4]; · iexact S4
  isplitl [Ho]; · iexact Ho
  isplitl [Hx]; · iexact Hx
  iexact Hd

/-- What the region is left with, from the invariant after the last point. -/
theorem phi1_leave (V' : (c : Dev nD) → (b : Ref sig .tc) → Buf (Elt F) ((c : Thread nD τ).loc b)) (c : Dev nD)
    (hx : V' c main_v0 = V c main_v0) (hd : V' c main_v7_0 = dxEnd V c) :
    (Phi1 V c cfg1.N (le_refl _) : sProp 𝕄) ⊢ iprop((∃ r, prngReg c r)
      ∗ Pipeline.ownSems0 (Ix := Unit) (Name := ℕ) (U := Pipeline.UD sig nD τ) (Lvl := ℕ) (Val := Elt F) (τ := τ) osem1 c
      ∗ (bigSep H1 fun b => (((c : Thread nD τ)).loc b) ↦{fullShare} V' c b)
      ∗ Pipeline.scopedRest (Ix := Unit) (Name := ℕ) (U := Pipeline.UD sig nD τ) (Lvl := ℕ) (Val := Elt F) spec1 c) := by
  rw [scopedRest1_eq, H1_eq, ownSems01_eq, hx, hd]
  unfold Phi1 own1 rest1
  simp only [at_sc0, at_sc1, at_sc2, at_sc3, at_sc4]
  rw [show dxAt V c cfg1.N = dxEnd V c from if_pos N_1]
  iintro ⟨⟨A0, A1, A2, A3, A4, Hp⟩, ⟨%f0, %f1, %f2, -, S0, S1, S2⟩, S3, S4, Ho, Hx, Hd⟩
  isplitl [Hp]; · iexact Hp
  isplitl [Ho]; · iexact Ho
  isplitl [Hx Hd]
  · isplitl [Hx]; · iexact Hx
    iexact Hd
  isplitl [A0]; · iexact A0
  isplitl [A1]; · iexact A1
  isplitl [A2]; · iexact A2
  isplitl [A3]; · iexact A3
  isplitl [A4]; · iexact A4
  isplitl [S0]; · iexists f0; iexact S0
  isplitl [S1]; · iexists f1; iexact S1
  isplitl [S2]; · iexists f2; iexact S2
  isplitl [S3]; · iexact S3
  iexact S4

end Enter

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The main region over the thread state: its arrays and the arrays its body copies from and to split out of the unscoped
    buffers and put back; the generator register and the kernel's own semaphore in and out; nothing owed. -/
def reg1 : Pipeline.RegionSeg (pcfgs (F := F)) adm (pdats m ρ) () defs₀ 𝒱₀ L lv 1 where
  win := launch1.win.to₀
  block_pos := launch1.block_pos
  stage_whole := launch1.stage_whole
  K := Fin 1
  osem := osem1
  ho := ownSemFacts1
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V2 m ρ c b))
  Y c := iprop((∃ r, prngReg c r) ∗ (bigSep H1 fun b => (((c : Thread nD τ)).loc b) ↦{fullShare} V3 m ρ c b))
  Z c := bigSep (Pipeline.restRefs sig spec1 \ H1) fun b => (((c : Thread nD τ)).loc b) ↦{fullShare} V2 m ρ c b
  hentry c := by
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    have hH : (Pipeline.unscopedRest (Ix := Unit) (Name := ℕ) (U := Pipeline.UD sig nD τ) (Lvl := ℕ) spec1 c (V2 m ρ c) : sProp 𝕄)
        = iprop((bigSep H1 fun b => (((c : Thread nD τ)).loc b) ↦{fullShare} V2 m ρ c b) ∗ (bigSep (Pipeline.restRefs sig spec1 \ H1) fun b => (((c : Thread nD τ)).loc b) ↦{fullShare} V2 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 1 c).Φ 0 = Phi1 (V2 m ρ) c 0 (Nat.zero_le _) from rfl]
    iintro ⟨⟨Hp, Ho, HH⟩, -, Hr⟩
    iapply (phi1_enter (V2 m ρ) c)
    isplitl [Hp]; · iexact Hp
    isplitl [Ho]; · iexact Ho
    isplitl [HH]; · iexact HH
    iexact Hr
  hout c := by
    rw [show (pdats m ρ 1 c).Φ (Fin.last _) = Phi1 (V2 m ρ) c cfg1.N (le_refl _) from rfl]
    iintro H
    ihave H' := (phi1_leave (V2 m ρ) (V3 m ρ) c (W3_of m ρ c main_v0 (by decide) (by decide)) (W3_dx m ρ c)) $$ H
    icases H' with ⟨Hp, Ho, HH, Hr⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V3 m ρ c) ((pdats m ρ 1 c).arrAt · cfg1.N) (hF1 m ρ c) (fun _ _ => rfl)
    rw [Pipeline.unscopedBufs_held] at hjoin
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V2 m ρ c b)) := by
      unfold Pipeline.unscopedRest; rw [BI.bigSep_sdiff_split H1_sub]
      exact congrArg _ (BI.bigSep_congr fun b hb => by rw [rest_same m ρ c b hb])
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution of the program terminates, nothing faulting, and every final
    state has each unscoped buffer at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    have ha : ∀ a ∈ argRefs, ¬ (Proc.devRef .tc a : DevRef τ sig).isScoped → r.2.mem ((c.tc : Thread nD τ).loc a) = m ((c.tc : Thread nD τ).loc a) :=
      fun a ha hs => (h.1 c _ (mem_uc a hs)).trans (W4_args m ρ c a ha)
    ⟨ha main_arg0 (by decide) (by decide), ha main_arg1 (by decide) (by decide), ha main_arg2 (by decide) (by decide), ha main_arg3 (by decide) (by decide), ha main_arg4 (by decide) (by decide), ha main_arg5 (by decide) (by decide), ha main_arg6 (by decide) (by decide)⟩, h.2⟩) (run m ρ)

end Cert.KernelIdeal.Gen

end
-- ==== Proof.V.Spec.lean ====
/- The scalar functions and the laws of sums that the kernel's values and the reference's values share. -/
module

public import Idealize.ShloMosaic.Lib.Pointwise
public import Idealize.ShloMosaic.Lib.Pipeline.ValueKit.Acc

@[expose] public section

noncomputable section

namespace Cert.Spec

open Idealize.ShloMosaic

/-- The cotangent of projection `p` at one element: of the up projection (`p = 1`) through the gate `zg · σ(zg)`, of the gate
    projection through the derivative of `zg · σ(zg)`. -/
def dzE (p : ℕ) (dh zg zu : EReal) : EReal :=
  if p = 1 then dh * Ideal.logistic zg * zg
  else dh * Ideal.logistic zg * zu * (1 + zg * (1 - Ideal.logistic zg))

/-- The signed four-bit field of a byte: the low one for `f = 0`, the high one otherwise. -/
def fieldOf (f : ℕ) (b : BitVec 8) : BitVec 32 :=
  if f < 1 then IntOp.shrsi ArithUnit.vector (IntOp.shli ArithUnit.vector (BitVec.setWidth 32 b) 28#32) 28#32
  else IntOp.shrsi ArithUnit.vector (IntOp.shli ArithUnit.vector (BitVec.setWidth 32 b) 24#32) 28#32

/-- A dequantised weight: the field of its byte times the scale of its group. -/
def wE (f : ℕ) (b : BitVec 8) (s : EReal) : EReal := FloatOps.sitofp (F := Ideal) FTy.bf16 (fieldOf f b) * s

/-- The low field by a mask and a test of its top bit. -/
theorem field_low : ∀ b : BitVec 8,
    Scalar.select (IntOp.cmpi CmpIPredicate.sge (IntOp.andi (BitVec.setWidth 32 b) 15#32) 8#32)
      (IntOp.subi (IntOp.andi (BitVec.setWidth 32 b) 15#32) 16#32) (IntOp.andi (BitVec.setWidth 32 b) 15#32) = fieldOf 0 b := by
  decide +kernel

/-- The high field by a shift and a test of its top bit. -/
theorem field_high : ∀ b : BitVec 8,
    Scalar.select (IntOp.cmpi CmpIPredicate.sge (IntOp.shrsi ArithUnit.host (BitVec.setWidth 32 b) 4#32) 8#32)
      (IntOp.subi (IntOp.shrsi ArithUnit.host (BitVec.setWidth 32 b) 4#32) 16#32) (IntOp.shrsi ArithUnit.host (BitVec.setWidth 32 b) 4#32) = fieldOf 1 b := by
  decide +kernel

/-- One half, the scale of the low-rank terms. -/
def half : EReal := Ideal.ofBits FTy.f32 1056964608#32

theorem half_eq : half = ((1 / 2 : ℝ) : EReal) := by
  unfold half
  simp [Ideal.ofBits, Ideal.ieee]
  rw [← EReal.coe_mul]
  norm_num

theorem half_nonneg : 0 ≤ half := by rw [half_eq]; exact EReal.coe_nonneg.2 (by norm_num)
theorem half_ne_top : half ≠ ⊤ := by rw [half_eq]; exact EReal.coe_ne_top _

/-- One half distributes over a sum. -/
theorem half_mul_sum {ι : Type} (s : Finset ι) (f : ι → EReal) : ∑ k ∈ s, half * f k = half * ∑ k ∈ s, f k := by
  classical
  induction s using Finset.induction_on with
  | empty => simp
  | insert a s ha ih => rw [Finset.sum_insert ha, Finset.sum_insert ha, ih, EReal.left_distrib_of_nonneg_of_ne_top half_nonneg half_ne_top]

/-- Blocks of `n` summed one after another are the whole sum. -/
theorem sum_blocks {S n L : ℕ} (hL : L = S * n) (g : ℕ → ℕ → EReal) (f : Fin L → EReal)
    (h : ∀ (s k : ℕ) (hs : s < S) (hk : k < n) (hl : n * s + k < L), g s k = f ⟨n * s + k, hl⟩) :
    ∑ s ∈ Finset.range S, ∑ k : Fin n, g s k = ∑ l : Fin L, f l := by
  rw [← Fin.sum_univ_eq_sum_range (fun s => ∑ k : Fin n, g s k)]
  refine Fin.sum_mul_add_congr (fun s k hl => ?_) hL
  have e : s.val * n + k.val = n * s.val + k.val := by rw [Nat.mul_comm]
  rw [h s.val k.val s.isLt k.isLt (e ▸ hl)]
  exact congrArg f (Fin.ext e.symm)

/-- A running total that starts at zero and takes in one block of `n` terms at each step is, after `S` steps, the sum of all
    the terms. -/
theorem run_blocks {N n L : ℕ} (S : ℕ) (hS : S ≤ N) (hL : L = S * n) (a : (k : ℕ) → k ≤ N → EReal) (f : Fin L → EReal) (h0 : a 0 (Nat.zero_le _) = 0)
    (hs : ∀ k (hk : k < N), k < S → ∃ b : Fin n → EReal, a (k + 1) hk = a k (Nat.le_of_lt hk) + ∑ q, b q
      ∧ ∀ q (hq : n * k + q.val < L), b q = f ⟨n * k + q.val, hq⟩) : a S hS = ∑ l, f l := by
  have h : ∀ k (hk : k ≤ N), k ≤ S → a k hk = ∑ j ∈ Finset.range k, ∑ q : Fin n, (fun j q : ℕ => if h : n * j + q < L then f ⟨n * j + q, h⟩ else 0) j q.val := by
    intro k
    induction k with
    | zero => intro _ _; rw [Finset.sum_range_zero]; exact h0
    | succ k ih =>
      intro hk hkS
      obtain ⟨b, e, hb⟩ := hs k hk hkS
      rw [Finset.sum_range_succ, ← ih (Nat.le_of_lt hk) (Nat.le_of_lt hkS), e]
      refine congrArg (a k _ + ·) (Finset.sum_congr rfl fun q _ => ?_)
      have hq : n * k + q.val < L := by
        have := q.isLt
        have h2 : n * (k + 1) ≤ n * S := Nat.mul_le_mul_left n hkS
        rw [Nat.mul_add] at h2
        rw [hL, Nat.mul_comm S n]
        omega
      rw [hb q hq]
      show _ = dite (n * k + q.val < L) _ _
      rw [dif_pos hq]
  rw [h S hS (Nat.le_refl _)]
  exact sum_blocks hL (fun j q : ℕ => if h : n * j + q < L then f ⟨n * j + q, h⟩ else 0) f fun s k _ _ hl => dif_pos hl

end Cert.Spec

end
-- ==== Proof.V.Pay.lean ====
/- What each store's value is, element by element, over the extended reals. -/
module

public import proofs.«01_k».proof.Proof.KI.Run
public import proofs.«01_k».proof.Proof.V.Spec
public import Idealize.ShloMosaic.Lib.Pointwise
public import Idealize.ShloMosaic.Lib.Pipeline.ValueKit

@[expose] public section

set_option maxRecDepth 16384

noncomputable section

namespace Cert.KernelIdeal.Val

open Idealize.ShloMosaic Cert.KernelIdeal Cert.KernelIdeal.Gen Cert.Spec

/-! ## Windows at an index -/

/-- A rank-2 window at an index. -/
theorem win2 {n0 n1 m0 m1 : ℕ} {e : EltTy} (x : Vec Ideal ⟨2, ![n0, n1]⟩ e) (o0 o1 : ℕ) (inb) (i : Fin m0) (j : Fin m1) (i' : Fin n0) (j' : Fin n1)
    (h0 : o0 + i.val = i'.val) (h1 : o1 + j.val = j'.val) :
    VecWindow.window (s := ⟨2, ![n0, n1]⟩) x ![o0, o1] ![m0, m1] inb (ix2 i j) = x (ix2 i' j') := by
  unfold VecWindow.window
  refine congrArg x (funext fun a => Fin.ext ?_)
  rw [ValueKit.rect_emb_unit_val]
  match a with
  | ⟨0, _⟩ => exact h0
  | ⟨1, _⟩ => exact h1

/-- A rank-3 window at an index. -/
theorem win3 {n0 n1 n2 m0 m1 m2 : ℕ} {e : EltTy} (x : Vec Ideal ⟨3, ![n0, n1, n2]⟩ e) (o0 o1 o2 : ℕ) (inb) (i : Fin m0) (j : Fin m1) (k : Fin m2)
    (i' : Fin n0) (j' : Fin n1) (k' : Fin n2) (h0 : o0 + i.val = i'.val) (h1 : o1 + j.val = j'.val) (h2 : o2 + k.val = k'.val) :
    VecWindow.window (s := ⟨3, ![n0, n1, n2]⟩) x ![o0, o1, o2] ![m0, m1, m2] inb (ix3 i j k) = x (ix3 i' j' k') := by
  unfold VecWindow.window
  refine congrArg x (funext fun a => Fin.ext ?_)
  rw [ValueKit.rect_emb_unit_val]
  match a with
  | ⟨0, _⟩ => exact h0
  | ⟨1, _⟩ => exact h1
  | ⟨2, _⟩ => exact h2

/-- The windows of the blocks, each at an index. A slab of the accumulator: -/
theorem accSlab_apply (x : Vec Ideal S14x1792x256 .f32) (i : Fin 14) (r : Fin 1792) (l : Fin 256) : accSlab x i (ix3 0 r l) = x (ix3 i r l) :=
  win3 x _ _ _ _ _ _ _ _ _ _ rfl (Nat.zero_add _) (Nat.zero_add _)
/-- 64 tokens of the projections' outputs: -/
theorem zRows_apply (z : Vec Ideal S1792x2x256 .bf16) (t : Fin 1792) (p : Fin 2) (l : Fin 256) :
    zRows z ⟨t.val / 64, row_div t.isLt⟩ (ix3 ⟨t.val % 64, row_mod _⟩ p l) = z (ix3 t p l) :=
  win3 z _ _ _ _ _ _ _ _ _ _ (Nat.div_add_mod _ _) (Nat.zero_add _) (Nat.zero_add _)
/-- 64 tokens of the upstream cotangents: -/
theorem dhRows_apply (x : Vec Ideal S1792x256 .bf16) (t : Fin 1792) (l : Fin 256) :
    dhRows x ⟨t.val / 64, row_div t.isLt⟩ (ix2 ⟨t.val % 64, row_mod _⟩ l) = x (ix2 t l) :=
  win2 x _ _ _ _ _ _ _ (Nat.div_add_mod _ _) (Nat.zero_add _)
/-- 128 rows of packed bytes: -/
theorem wBytes_apply (w : Vec Ideal S2x1792x256 .i8) (p : Fin 2) (i : Fin 14) (b : Fin 128) (l : Fin 256) :
    wBytes w p i (ix3 0 b l) = w (ix3 p ⟨128 * i.val + b.val, by omega⟩ l) :=
  win3 w _ _ _ _ _ _ _ _ _ _ rfl rfl (Nat.zero_add _)
/-- a group's scales: -/
theorem wScale_apply (s : Vec Ideal S28x2x256 .bf16) (i : Fin 14) (h p : Fin 2) (l : Fin 256) :
    wScale s i h p (ix3 0 0 l) = s (ix3 ⟨2 * i.val + h.val, by omega⟩ p l) :=
  win3 s _ _ _ _ _ _ _ _ _ _ rfl rfl (Nat.zero_add _)
/-- one projection's cotangents: -/
theorem dzHalf_apply (x : Vec Ideal S2x1792x256 .bf16) (p : Fin 2) (t : Fin 1792) (l : Fin 256) : dzHalf x p (ix3 0 t l) = x (ix3 p t l) :=
  win3 x _ _ _ _ _ _ _ _ _ _ rfl (Nat.zero_add _) (Nat.zero_add _)
/-- one projection of the projected cotangents: -/
theorem gHalf_apply (x : Vec Ideal S2x32x1792 .f32) (p : Fin 2) (r : Fin 32) (t : Fin 1792) : gHalf x p (ix3 0 r t) = x (ix3 p r t) :=
  win3 x _ _ _ _ _ _ _ _ _ _ rfl (Nat.zero_add _) (Nat.zero_add _)
/-- one projection of the second low-rank factor: -/
theorem bHalf_apply (x : Vec Ideal S2x32x256 .bf16) (p : Fin 2) (r : Fin 32) (l : Fin 256) : bHalf x p (ix3 0 r l) = x (ix3 p r l) :=
  win3 x _ _ _ _ _ _ _ _ _ _ rfl (Nat.zero_add _) (Nat.zero_add _)
/-- one projection of the projected activations: -/
theorem xaHalf_apply (x : Vec Ideal S64x1792 .bf16) (p : Fin 2) (r : Fin 32) (t : Fin 1792) :
    xaHalf x p (ix2 r t) = x (ix2 ⟨32 * p.val + r.val, by omega⟩ t) :=
  win2 x _ _ _ _ _ _ _ rfl (Nat.zero_add _)
/-- 256 columns of the transposed factor: -/
theorem atCols_apply (x : Vec Ideal S64x3584 .bf16) (i : Fin 14) (r : Fin 64) (l : Fin 256) :
    atCols x i (ix2 r l) = x (ix2 r ⟨256 * i.val + l.val, by omega⟩) :=
  win2 x _ _ _ _ _ _ _ (Nat.zero_add _) rfl
/-- 256 tokens of the activations: -/
theorem tileRows_apply (x : Vec Ideal S1792x3584 .bf16) (k : Fin 7) (r : Fin 256) (d : Fin 3584) :
    tileRows x k (ix2 r d) = x (ix2 ⟨256 * k.val + r.val, by omega⟩ d) :=
  win2 x _ _ _ _ _ _ _ rfl (Nat.zero_add _)
/-- 256 tokens of the projected cotangents: -/
theorem gCols_apply (x : Vec Ideal S2x32x1792 .f32) (k : Fin 7) (p : Fin 2) (r : Fin 32) (l : Fin 256) :
    gCols x k (ix3 p r l) = x (ix3 p r ⟨256 * k.val + l.val, by omega⟩) :=
  win3 x _ _ _ _ _ _ _ _ _ _ (Nat.zero_add _) (Nat.zero_add _) rfl
/-- 256 tokens of a slab of the accumulator: -/
theorem accTile_apply (x : Vec Ideal S14x1792x256 .f32) (t : Fin 1792) (d : Fin 3584) :
    accTile x ⟨d.val / 256, by omega⟩ ⟨t.val / 256, by omega⟩ (ix3 0 ⟨t.val % 256, Nat.mod_lt _ (by decide)⟩ ⟨d.val % 256, Nat.mod_lt _ (by decide)⟩)
      = x (ix3 ⟨d.val / 256, by omega⟩ t ⟨d.val % 256, Nat.mod_lt _ (by decide)⟩) :=
  win3 x _ _ _ _ _ _ _ _ _ _ rfl (Nat.div_add_mod _ _) (Nat.zero_add _)

/-! ## One grid point -/

/-- The cotangents of the projections at a point. -/
theorem dzOf_apply (x : Vec Ideal S1792x256 .bf16) (z : Vec Ideal S1792x2x256 .bf16) (p : Fin 2) (t : Fin 1792) (l : Fin 256) :
    dzOf x z (ix3 p t l) = dzE p.val (x (ix2 t l)) (z (ix3 t 0 l)) (z (ix3 t 1 l)) := by
  pointwise [dzOf, k1_pay35, k1_pay36, k1_pay34, k1_pay33, k1_pay32]
  rw [dhRows_apply, zRows_apply, zRows_apply]
  rfl

/-- An unpacked and scaled weight tile of either projection. -/
theorem tile_apply (w : Vec Ideal S2x1792x256 .i8) (s : Vec Ideal S28x2x256 .bf16) (p : Fin 2) (i : Fin 14) (r l : Fin 256) :
    k1_pay11 (wBytes w p i) (wScale s i 0 p) (wScale s i 1 p) (ix2 r l)
      = wE (r.val % 2) (w (ix3 p ⟨128 * i.val + r.val / 2, by omega⟩ l)) (s (ix3 ⟨2 * i.val + r.val / 128, by omega⟩ p l)) := by
  pointwise [k1_pay11]
  simp only [wBytes_apply, wScale_apply]
  split
  · rename_i h
    have e : r.val / 128 = 0 := by omega
    simp only [e]
    unfold wE fieldOf
    rfl
  · rename_i h
    have e : r.val / 128 = 1 := by omega
    have e' : 128 + (r.val - 128) = r.val := by omega
    simp only [e, e']
    unfold wE fieldOf
    rfl

/-- The second projection's tile is the first's at other operands. -/
theorem tile1_eq (w : Vec Ideal S1x128x256 .i8) (s s' : Vec Ideal S1x1x256 .bf16) : k1_pay13 w s s' = k1_pay11 w s s' := rfl

/-- The accumulator after a point. -/
theorem accNext_apply (w : Vec Ideal S2x1792x256 .i8) (s : Vec Ideal S28x2x256 .bf16) (dz : Vec Ideal S2x1792x256 .bf16) (acc : Vec Ideal S14x1792x256 .f32)
    (i : Fin 14) (t : Fin 1792) (l : Fin 256) :
    accNext w s dz acc (ix3 i t l) = acc (ix3 i t l)
      + ∑ q : Fin 256, (dz (ix3 0 t q) * wE (l.val % 2) (w (ix3 0 ⟨128 * i.val + l.val / 2, by omega⟩ q)) (s (ix3 ⟨2 * i.val + l.val / 128, by omega⟩ 0 q))
        + dz (ix3 1 t q) * wE (l.val % 2) (w (ix3 1 ⟨128 * i.val + l.val / 2, by omega⟩ q)) (s (ix3 ⟨2 * i.val + l.val / 128, by omega⟩ 1 q))) := by
  pointwise [accNext, accPay, k1_pay37, k1_pay12, k1_pay10, k1_pay14]
  simp only [accSlab_apply, tile1_eq, dzHalf_apply, tile_apply]
  rw [Finset.sum_add_distrib]

/-- The accumulator starts at zero. -/
theorem accZero_apply (y : S14x1792x256.Idx) : accZero (F := Ideal) y = 0 := by
  pointwise [accZero, k1_pay31]

/-- The projected cotangents after a point. -/
theorem gNext_apply (b : Vec Ideal S2x32x256 .bf16) (dz : Vec Ideal S2x1792x256 .bf16) (g : Vec Ideal S2x32x1792 .f32) (p : Fin 2) (r : Fin 32) (t : Fin 1792) :
    gNext b dz g (ix3 p r t) = g (ix3 p r t) + ∑ q : Fin 256, b (ix3 p r q) * dz (ix3 p t q) := by
  obtain rfl | rfl : p = 0 ∨ p = 1 := by omega
  all_goals
    pointwise [gNext, k1_pay38, k1_pay2]
    simp only [gHalf_apply, bHalf_apply, dzHalf_apply]

/-- The projected cotangents start at zero. -/
theorem gZero_apply (y : S2x32x1792.Idx) : k1_pay30 (F := Ideal) y = 0 := by
  pointwise [k1_pay30]

/-- A point's block of the second low-rank factor's gradient. -/
theorem dbOf_apply (xa : Vec Ideal S64x1792 .bf16) (dz : Vec Ideal S2x1792x256 .bf16) (p : Fin 2) (r : Fin 32) (l : Fin 256) :
    dbOf xa dz (ix3 p r l) = half * ∑ t : Fin 1792, xa (ix2 ⟨32 * p.val + r.val, by omega⟩ t) * dz (ix3 p t l) := by
  obtain rfl | rfl : p = 0 ∨ p = 1 := by omega
  all_goals
    pointwise [dbOf, k1_pay1, k1_pay39, k1_pay3, half]
    simp only [xaHalf_apply, dzHalf_apply]
    exact congrArg _ (Finset.sum_congr rfl fun q _ => congrArg (· * _) (congrArg xa (congrArg (ix2 · q) (Fin.ext (by simp)))))

/-! ## The last point -/

/-- The accumulator with the low-rank term. -/
theorem accLast_apply (g : Vec Ideal S2x32x1792 .f32) (am : Vec Ideal S64x3584 .bf16) (acc : Vec Ideal S14x1792x256 .f32) (i : Fin 14) (t : Fin 1792) (l : Fin 256) :
    accLast g am acc (ix3 i t l) = acc (ix3 i t l)
      + half * ∑ k : Fin 64, g (ix3 ⟨k.val / 32, by omega⟩ ⟨k.val % 32, Nat.mod_lt _ (by decide)⟩ t) * am (ix2 k ⟨256 * i.val + l.val, by omega⟩) := by
  pointwise [accLast, k1_pay5, k1_pay4, half]
  simp only [accSlab_apply, atCols_apply]

/-- One row tile's share of the first low-rank factor's gradient. -/
theorem daStep_apply (g : Vec Ideal S2x32x256 .f32) (a : Vec Ideal S64x3584 .f32) (x : Vec Ideal S256x3584 .bf16) (r : Fin 64) (d : Fin 3584) :
    k1_pay15 g a x (ix2 r d)
      = a (ix2 r d) + half * ∑ q : Fin 256, g (ix3 ⟨r.val / 32, by omega⟩ ⟨r.val % 32, Nat.mod_lt _ (by decide)⟩ q) * x (ix2 q d) := by
  pointwise [k1_pay15, half]

/-- The first low-rank factor's gradient starts at zero, -/
theorem daUpto_zero (g : Vec Ideal S2x32x1792 .f32) (x : Vec Ideal S1792x3584 .bf16) (y : S64x3584.Idx) : daUpto g x 0 y = 0 := by
  show k1_pay6 (F := Ideal) y = 0
  pointwise [k1_pay6]

/-- takes in 256 tokens at each step, -/
theorem daUpto_succ (g : Vec Ideal S2x32x1792 .f32) (x : Vec Ideal S1792x3584 .bf16) (k : ℕ) (h : k < 7) :
    daUpto g x (k + 1) = k1_pay15 (gCols g ⟨k, h⟩) (daUpto g x k) (tileRows x ⟨k, h⟩) := by
  rw [daUpto, dif_pos h]

/-- One product of the first low-rank factor's gradient, at token `256 k + q`. -/
def daTerm (g : Vec Ideal S2x32x1792 .f32) (x : Vec Ideal S1792x3584 .bf16) (r : Fin 64) (d : Fin 3584) (k q : ℕ) : EReal :=
  if h : 256 * k + q < 1792 then
    (g (ix3 ⟨r.val / 32, by omega⟩ ⟨r.val % 32, Nat.mod_lt _ (by decide)⟩ ⟨256 * k + q, h⟩) : EReal) * x (ix2 ⟨256 * k + q, h⟩ d) else 0

/-- and is after `n` steps the sum of their shares. -/
theorem daUpto_apply (g : Vec Ideal S2x32x1792 .f32) (x : Vec Ideal S1792x3584 .bf16) (r : Fin 64) (d : Fin 3584) (n : ℕ) (hn : n ≤ 7) :
    daUpto g x n (ix2 r d) = ∑ k ∈ Finset.range n, half * ∑ q : Fin 256, daTerm g x r d k q.val := by
  induction n with
  | zero => rw [Finset.sum_range_zero, daUpto_zero]
  | succ n ih =>
    rw [Finset.sum_range_succ, ← ih (by omega), daUpto_succ g x n (by omega), daStep_apply]
    refine congrArg (daUpto g x n (ix2 r d) + half * ·) (Finset.sum_congr rfl fun q _ => ?_)
    rw [gCols_apply, tileRows_apply, daTerm, dif_pos (by omega)]

/-- The first low-rank factor's gradient. -/
theorem da_apply (g : Vec Ideal S2x32x1792 .f32) (x : Vec Ideal S1792x3584 .bf16) (r : Fin 64) (d : Fin 3584) :
    daUpto g x 7 (ix2 r d)
      = half * ∑ t : Fin 1792, g (ix3 ⟨r.val / 32, by omega⟩ ⟨r.val % 32, Nat.mod_lt _ (by decide)⟩ t) * x (ix2 t d) := by
  rw [daUpto_apply g x r d 7 (Nat.le_refl _), half_mul_sum]
  refine congrArg (half * ·) (sum_blocks (S := 7) (n := 256) rfl (daTerm g x r d) _ fun s k _ _ hl => ?_)
  rw [daTerm, dif_pos hl]

/-- The input's gradient from the accumulator. -/
theorem dxOf_apply (acc : Vec Ideal S14x1792x256 .f32) (t : Fin 1792) (d : Fin 3584) :
    dxOf acc (ix2 t d) = acc (ix3 ⟨d.val / 256, by omega⟩ t ⟨d.val % 256, Nat.mod_lt _ (by decide)⟩) := by
  pointwise [dxOf, k1_pay19]
  rw [accTile_apply]

/-- The projected cotangents as returned. -/
theorem gOut_apply (g : Vec Ideal S2x32x1792 .f32) (r : Fin 64) (t : Fin 1792) :
    k1_pay4 g (ix2 r t) = g (ix3 ⟨r.val / 32, by omega⟩ ⟨r.val % 32, Nat.mod_lt _ (by decide)⟩ t) := by
  pointwise [k1_pay4]

/-- A row tile of the projected activations. -/
theorem xaPay_apply (a : Vec Ideal S64x3584 .bf16) (x : Vec Ideal S256x3584 .bf16) (r : Fin 64) (q : Fin 256) :
    k0_pay1 a x (ix2 r q) = ∑ d, a (ix2 r d) * x (ix2 q d) := by
  pointwise [k0_pay1]

end Cert.KernelIdeal.Val

end
-- ==== Proof.V.Blk.lean ====
/- The blocks the pipelines hand to the kernel bodies, read off the arrays. -/
module

public import proofs.«01_k».proof.Proof.V.Pay

@[expose] public section

set_option maxRecDepth 16384

noncomputable section

namespace Cert.KernelIdeal.Val

open Idealize.ShloMosaic Idealize.ShloMosaic.TcCoe Cert.KernelIdeal Cert.KernelIdeal.Gen Cert.Spec

/-- The block each window of the first kernel takes at a point. -/
theorem idx0 : ∀ t : Fin cfg0.N, win0_0.index t = ![0, 0] ∧ win0_1.index t = ![t.val, 0] ∧ win0_2.index t = ![0, t.val] := by decide +kernel

/-- The block each window of the main kernel takes at a point. -/
theorem idx1 : ∀ t : Fin cfg1.N, win1_0.index t = ![0, t.val] ∧ win1_1.index t = ![0, 0, t.val] ∧ win1_2.index t = ![0, 0, t.val]
    ∧ win1_3.index t = ![0, 0, t.val] ∧ win1_4.index t = ![0, 0, t.val] ∧ win1_5.index t = ![0, 0] ∧ win1_6.index t = ![0, 0]
    ∧ win1_7.index t = ![0, 0] ∧ win1_8.index t = ![0, 0, t.val] ∧ win1_9.index t = ![0, 0] := by decide +kernel

variable (V : (c : Dev nD) → (b : Ref sig .tc) → Buf (Elt Ideal) ((c : Thread nD τ).loc b)) (c : Dev nD)

/-- The tokens' activations. -/
abbrev aX : Vec Ideal S1792x3584 .bf16 := V c main_v0
/-- The upstream cotangents. -/
abbrev aDh : Vec Ideal S1792x18944 .bf16 := V c main_v1
/-- The two projections' outputs. -/
abbrev aZ : Vec Ideal S1792x2x18944 .bf16 := V c main_v2
/-- The packed weights. -/
abbrev aW : Vec Ideal S2x1792x18944 .i8 := V c main_v3
/-- The weights' scales. -/
abbrev aS : Vec Ideal S28x2x18944 .bf16 := V c main_arg4
/-- The second low-rank factor. -/
abbrev aB : Vec Ideal S2x32x18944 .bf16 := V c main_arg6
/-- The first low-rank factor, transposed. -/
abbrev aA : Vec Ideal S64x3584 .bf16 := V c main_v5
/-- The projected activations, transposed. -/
abbrev aXa : Vec Ideal S64x1792 .bf16 := V c main_v6

/-- The first kernel is given the whole transposed factor at every point. -/
theorem blk0_0 (t : Fin cfg0.N) (x : Fin 64) (d : Fin 3584) : iblk0 V c 0 t (ix2 x d) = aA V c (ix2 x d) := by
  blk_ext [iblk0, idx0 t]
/-- and 256 tokens of the activations. -/
theorem blk0_1 (t : Fin cfg0.N) (q : Fin 256) (d : Fin 3584) (k : Fin 1792) (hk : k.val = 256 * t.val + q.val) :
    iblk0 V c 1 t (ix2 q d) = aX V c (ix2 k d) := by
  blk_ext [iblk0, idx0 t]

/-- The main kernel is given, at point `t`, the hidden units `256 t + q`: of the upstream cotangents, -/
theorem blk1_0 (t : Fin cfg1.N) (r : Fin 1792) (q : Fin 256) (n : Fin 18944) (hn : n.val = 256 * t.val + q.val) :
    iblk1 V c 0 t (ix2 r q) = aDh V c (ix2 r n) := by
  blk_ext [iblk1, idx1 t]
/-- of the projections' outputs, -/
theorem blk1_1 (t : Fin cfg1.N) (r : Fin 1792) (p : Fin 2) (q : Fin 256) (n : Fin 18944) (hn : n.val = 256 * t.val + q.val) :
    iblk1 V c 1 t (ix3 r p q) = aZ V c (ix3 r p n) := by
  blk_ext [iblk1, idx1 t]
/-- of the packed weights, -/
theorem blk1_2 (t : Fin cfg1.N) (p : Fin 2) (r : Fin 1792) (q : Fin 256) (n : Fin 18944) (hn : n.val = 256 * t.val + q.val) :
    iblk1 V c 2 t (ix3 p r q) = aW V c (ix3 p r n) := by
  blk_ext [iblk1, idx1 t]
/-- of the scales, -/
theorem blk1_3 (t : Fin cfg1.N) (r : Fin 28) (p : Fin 2) (q : Fin 256) (n : Fin 18944) (hn : n.val = 256 * t.val + q.val) :
    iblk1 V c 3 t (ix3 r p q) = aS V c (ix3 r p n) := by
  blk_ext [iblk1, idx1 t]
/-- of the second low-rank factor; -/
theorem blk1_4 (t : Fin cfg1.N) (p : Fin 2) (r : Fin 32) (q : Fin 256) (n : Fin 18944) (hn : n.val = 256 * t.val + q.val) :
    iblk1 V c 4 t (ix3 p r q) = aB V c (ix3 p r n) := by
  blk_ext [iblk1, idx1 t]
/-- the projected activations whole, -/
theorem blk1_5 (t : Fin cfg1.N) (x : Fin 64) (r : Fin 1792) : iblk1 V c 5 t (ix2 x r) = aXa V c (ix2 x r) := by
  blk_ext [iblk1, idx1 t]
/-- and the transposed factor whole. -/
theorem blk1_6 (t : Fin cfg1.N) (x : Fin 64) (d : Fin 3584) : iblk1 V c 6 t (ix2 x d) = aA V c (ix2 x d) := by
  blk_ext [iblk1, idx1 t]

/-! ## The totals over the points -/

/-- The cotangent of a projection, from the arrays. -/
def dzV (p : Fin 2) (r : Fin 1792) (n : Fin 18944) : EReal := dzE p.val (aDh V c (ix2 r n)) (aZ V c (ix3 r 0 n)) (aZ V c (ix3 r 1 n))

/-- A dequantised weight, from the arrays. -/
def wV (d : Fin 3584) (p : Fin 2) (n : Fin 18944) : EReal :=
  wE (d.val % 2) (aW V c (ix3 p ⟨d.val / 2, by omega⟩ n)) (aS V c (ix3 ⟨d.val / 128, by omega⟩ p n))

/-- The cotangents computed at a point are those of its hidden units. -/
theorem dzAt_apply (t : Fin cfg1.N) (p : Fin 2) (r : Fin 1792) (q : Fin 256) (n : Fin 18944) (hn : n.val = 256 * t.val + q.val) :
    dzAt V c t (ix3 p r q) = dzV V c p r n := by
  unfold dzAt dzV
  rw [dzOf_apply, blk1_0 V c t r q n hn, blk1_1 V c t r 0 q n hn, blk1_1 V c t r 1 q n hn]

/-- The projected cotangents over all hidden units. -/
theorem gEnd_apply (p : Fin 2) (r : Fin 32) (t : Fin 1792) :
    gEnd V c (ix3 p r t) = ∑ n : Fin 18944, aB V c (ix3 p r n) * dzV V c p t n := by
  unfold gEnd
  refine run_blocks (n := 256) 74 tLast.isLt rfl (fun k hk => gAt V c k hk (ix3 p r t)) _ (gZero_apply _) fun k hk _ => ⟨_, gNext_apply _ _ _ p r t, fun q hq => ?_⟩
  rw [blk1_4 V c ⟨k, hk⟩ p r q ⟨256 * k + q.val, hq⟩ rfl, dzAt_apply V c ⟨k, hk⟩ p t q ⟨256 * k + q.val, hq⟩ rfl]

/-- The input's gradient through the dequantised weights. -/
theorem accAt_apply (i : Fin 14) (t : Fin 1792) (l : Fin 256) (d : Fin 3584) (hd : d.val = 256 * i.val + l.val) :
    accAt V c (73 + 1) tLast.isLt (ix3 i t l)
      = ∑ n : Fin 18944, (dzV V c 0 t n * wV V c d 0 n + dzV V c 1 t n * wV V c d 1 n) := by
  refine run_blocks (n := 256) 74 tLast.isLt rfl (fun k hk => accAt V c k hk (ix3 i t l)) _ (accZero_apply _) fun k hk _ => ⟨_, accNext_apply _ _ _ _ i t l, fun q hq => ?_⟩
  have e1 : d.val % 2 = l.val % 2 := by omega
  have e2 : d.val / 2 = 128 * i.val + l.val / 2 := by omega
  have e3 : d.val / 128 = 2 * i.val + l.val / 128 := by omega
  rw [dzAt_apply V c ⟨k, hk⟩ 0 t q ⟨256 * k + q.val, hq⟩ rfl, dzAt_apply V c ⟨k, hk⟩ 1 t q ⟨256 * k + q.val, hq⟩ rfl, blk1_2 V c ⟨k, hk⟩ 0 _ q ⟨256 * k + q.val, hq⟩ rfl, blk1_2 V c ⟨k, hk⟩ 1 _ q ⟨256 * k + q.val, hq⟩ rfl,
    blk1_3 V c ⟨k, hk⟩ _ 0 q ⟨256 * k + q.val, hq⟩ rfl, blk1_3 V c ⟨k, hk⟩ _ 1 q ⟨256 * k + q.val, hq⟩ rfl]
  unfold wV
  simp only [e1, e2, e3]

/-! ## The results of the main kernel -/

/-- The input's gradient. -/
theorem dxEnd_apply (t : Fin 1792) (d : Fin 3584) :
    dxEnd V c (ix2 t d) = ∑ n : Fin 18944, (dzV V c 0 t n * wV V c d 0 n + dzV V c 1 t n * wV V c d 1 n)
      + half * ∑ k : Fin 64, gEnd V c (ix3 ⟨k.val / 32, by omega⟩ ⟨k.val % 32, Nat.mod_lt _ (by decide)⟩ t) * aA V c (ix2 k d) := by
  have hd : d.val = 256 * (d.val / 256) + d.val % 256 := (Nat.div_add_mod _ _).symm
  unfold dxEnd accEnd
  rw [dxOf_apply, accLast_apply, accAt_apply V c _ t _ d hd]
  refine congrArg (_ + half * ·) (Finset.sum_congr rfl fun k _ => congrArg₂ (fun a b : EReal => a * b) rfl ?_)
  rw [blk1_6]
  exact congrArg (fun d => aA V c (ix2 k d)) (Fin.ext hd.symm)

/-- The first low-rank factor's gradient. -/
theorem daEnd_apply (k : Fin 64) (d : Fin 3584) :
    daEnd V c (ix2 k d) = half * ∑ t : Fin 1792, gEnd V c (ix3 ⟨k.val / 32, by omega⟩ ⟨k.val % 32, Nat.mod_lt _ (by decide)⟩ t) * aX V c (ix2 t d) := by
  unfold daEnd
  exact da_apply _ _ k d

/-- The second low-rank factor's gradient, as an array. -/
def dbArr : Vec Ideal S2x32x18944 .f32 := fun j =>
  half * ∑ t : Fin 1792, aXa V c (ix2 ⟨32 * (j 0).val + (j 1).val, by
    have h0 : (j 0).val < 2 := (j 0).isLt
    have h1 : (j 1).val < 32 := (j 1).isLt
    omega⟩ t) * dzV V c (j 0) t (j 2)

/-! ## The arrays the pipelines leave -/

/-- The first kernel's product, as an array. -/
def xaArr : Vec Ideal S64x1792 .bf16 := fun j => ∑ d : Fin 3584, aA V c (ix2 (j 0) d) * aX V c (ix2 (j 1) d)

/-- The first kernel leaves its product. -/
theorem arr0_2 : (dat0 V c).arrAt 2 cfg0.N = xaArr V c := by
  refine (dat0 V c).arrAt_eq_of_covers 2 _ (by decide +kernel) fun t hf y => ?_
  blk_simp
  rw [after0_2]
  idx_vars y
  frame_out
  have ht : t.val < 7 := lt_of_lt_of_eq t.isLt (show cfg0.N = 7 from N_0)
  have h : ∀ j : S64x1792.Idx, j = ix2 y0 ⟨256 * t.val + y1.val, by omega⟩ → k0_pay1 (iblk0 V c 0 t) (iblk0 V c 1 t) (ix2 y0 y1) = xaArr V c j := by
    rintro _ rfl
    rw [xaPay_apply]
    unfold xaArr
    refine Finset.sum_congr rfl fun d _ => ?_
    rw [blk0_0, blk0_1 V c t y1 d ⟨256 * t.val + y1.val, by omega⟩ rfl]
    rfl
  exact h _ (by blk_ext [idx0 t])

/-- The main kernel leaves the first low-rank factor's gradient, written at the last point, -/
theorem arr1_7 : (dat1 V c).arrAt 7 cfg1.N = daEnd V c := by
  refine (dat1 V c).arrAt_eq_of_after_last 7 tLast (by decide +kernel) _ fun j => ?_
  blk_simp
  rw [after1_7]

/-- the projected cotangents, written at the last point, -/
theorem arr1_9 : (dat1 V c).arrAt 9 cfg1.N = gOut V c := by
  refine (dat1 V c).arrAt_eq_of_after_last 9 tLast (by decide +kernel) _ fun j => ?_
  blk_simp
  rw [after1_9]

/-- The blocks of the second low-rank factor's gradient cover it. -/
theorem covers1_8 : (cfg1.win 8).Covers := by decide +kernel

/-- and the second low-rank factor's gradient, one block at each point. -/
theorem arr1_8 : (dat1 V c).arrAt 8 cfg1.N = dbArr V c := by
  refine (dat1 V c).arrAt_eq_of_covers 8 _ covers1_8 fun t hf y => ?_
  blk_simp
  rw [after1_8]
  idx_vars y
  have ht : t.val < 74 := N1_lt t
  have h : ∀ j : S2x32x18944.Idx, j = ix3 y0 y1 ⟨256 * t.val + y2.val, by omega⟩ → dbAt V c t (ix3 y0 y1 y2) = dbArr V c j := by
    rintro _ rfl
    unfold dbAt dbArr
    rw [dbOf_apply]
    refine congrArg (half * ·) (Finset.sum_congr rfl fun r _ => ?_)
    rw [blk1_5, dzAt_apply V c t y0 r y2 ⟨256 * t.val + y2.val, by omega⟩ rfl]
    rfl
  exact h _ (by blk_ext [idx1 t])

end Cert.KernelIdeal.Val

end
-- ==== Proof.V.Ref.lean ====
/- The reference's values at an index: each result as sums over the cotangents of the projections and the dequantised weights. -/
module

public import proofs.«01_k».proof.Proof.Gen.ReferenceIdeal.Read
public import proofs.«01_k».proof.Proof.V.Spec
public import Idealize.ShloMosaic.Lib.Pointwise

@[expose] public section

set_option maxRecDepth 16384

noncomputable section

namespace Cert.Ref

open Idealize.ShloMosaic Cert.ReferenceIdeal Cert.ReferenceIdeal.Gen Cert.ReferenceIdeal.Read Cert.Spec

variable (x0 : Vec Ideal S2x896x3584 .bf16) (x1 : Vec Ideal S2x896x18944 .bf16) (x2 : Vec Ideal S2x896x2x18944 .bf16)
  (x3 : Vec Ideal S1792x2x18944 .i8) (x4 : Vec Ideal S28x2x18944 .bf16) (x5 : Vec Ideal S2x3584x32 .bf16) (x6 : Vec Ideal S2x32x18944 .bf16)

/-- Token `t` of the flattened batch. -/
abbrev bi (t : Fin 1792) : Fin 2 := ⟨t.val / 896, by omega⟩
abbrev ti (t : Fin 1792) : Fin 896 := ⟨t.val % 896, Nat.mod_lt _ (by decide)⟩

/-- The cotangents of the projections. -/
theorem dz_apply (t : Fin 1792) (p : Fin 2) (n : Fin 18944) :
    val_main_v28 (F := Ideal) x1 x2 (ix3 t p n) = dzE p.val (x1 (ix3 (bi t) (ti t) n)) (x2 (ix4 (bi t) (ti t) 0 n)) (x2 (ix4 (bi t) (ti t) 1 n)) := by
  obtain rfl | rfl : p = 0 ∨ p = 1 := by omega
  · pointwise [val_main_v28, val_main_v27, val_main_v25, val_main_v26, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
    unfold dzE Ideal.logistic
    rw [if_neg (by decide)]
    ac_rfl
  · pointwise [val_main_v28, val_main_v27, val_main_v25, val_main_v26, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
    unfold dzE Ideal.logistic
    rw [if_pos (by decide)]
    ac_rfl

/-- The dequantised weights, even rows. -/
theorem even_apply (j : Fin 1792) (p : Fin 2) (n : Fin 18944) :
    val_main_v49 (F := Ideal) x3 x4 (ix3 j p n) = wE 0 (x3 (ix3 j p n)) (x4 (ix3 ⟨j.val / 64, by omega⟩ p n)) := by
  pointwise [val_main_v49, val_main_v48, val_main_v47, val_main_v46, val_main_v45, val_main_v44, val_main_v38, val_main_v37, val_main_v36, val_main_v35, val_main_v34, val_main_v31, val_main_v30, val_main_v29, val_main_c, val_main_c_4, val_main_c_5]
  rw [field_low]; rfl

/-- The dequantised weights, odd rows. -/
theorem odd_apply (j : Fin 1792) (p : Fin 2) (n : Fin 18944) :
    val_main_v55 (F := Ideal) x3 x4 (ix3 j p n) = wE 1 (x3 (ix3 j p n)) (x4 (ix3 ⟨j.val / 64, by omega⟩ p n)) := by
  pointwise [val_main_v55, val_main_v54, val_main_v53, val_main_v52, val_main_v51, val_main_v50, val_main_v43, val_main_v42, val_main_v41, val_main_v40, val_main_v39, val_main_v33, val_main_v32, val_main_v29, val_main_c_3, val_main_c_6, val_main_c_7]
  rw [field_high]; rfl

/-- Row `d` of the dequantised weights of projection `p`. -/
def wRow (d : Fin 3584) (p : Fin 2) (n : Fin 18944) : EReal :=
  wE (d.val % 2) (x3 (ix3 ⟨d.val / 2, by omega⟩ p n)) (x4 (ix3 ⟨d.val / 128, by omega⟩ p n))

/-- The input's gradient through the weights. -/
theorem base_apply (t : Fin 1792) (d : Fin 3584) :
    val_main_v61 (F := Ideal) x1 x2 x3 x4 (ix2 t d)
      = ∑ n : Fin 18944, (val_main_v28 (F := Ideal) x1 x2 (ix3 t 0 n) * wRow x3 x4 d 0 n + val_main_v28 (F := Ideal) x1 x2 (ix3 t 1 n) * wRow x3 x4 d 1 n) := by
  pointwise [val_main_v61, val_main_v60, val_main_v58, val_main_v59, val_main_v57, val_main_v56]
  have hd : d.val / 2 / 64 = d.val / 128 := by omega
  split
  · rename_i h
    refine Finset.sum_congr rfl fun n _ => ?_
    rw [Fin.sum_univ_two, even_apply, even_apply]
    unfold wRow
    have e : d.val % 2 = 0 := by omega
    simp only [hd, e]
  · rename_i h
    refine Finset.sum_congr rfl fun n _ => ?_
    rw [Fin.sum_univ_two, odd_apply, odd_apply]
    unfold wRow
    have e : d.val % 2 = 1 := by omega
    simp only [hd, e]

/-- The projected cotangents. -/
theorem g_apply (t : Fin 1792) (p : Fin 2) (r : Fin 32) :
    val_main_v64 (F := Ideal) x1 x2 x6 (ix3 t p r) = ∑ n, x6 (ix3 p r n) * val_main_v28 (F := Ideal) x1 x2 (ix3 t p n) := by
  pointwise [val_main_v64, val_main_v63, val_main_v62]

/-- The projected activations. -/
theorem xa_apply (t : Fin 1792) (p : Fin 2) (r : Fin 32) :
    val_main_v66 (F := Ideal) x0 x5 (ix3 t p r) = ∑ d, x0 (ix3 (bi t) (ti t) d) * x5 (ix3 p d r) := by
  pointwise [val_main_v66, val_main_v65, val_main_v0]

/-- The input's gradient. -/
theorem dx_apply (b : Fin 2) (t : Fin 896) (d : Fin 3584) :
    val_main_v72 (F := Ideal) x1 x2 x3 x4 x5 x6 (ix3 b t d)
      = val_main_v61 (F := Ideal) x1 x2 x3 x4 (ix2 ⟨b.val * 896 + t.val, by omega⟩ d)
        + half * ∑ p : Fin 2, ∑ r : Fin 32, val_main_v64 (F := Ideal) x1 x2 x6 (ix3 ⟨b.val * 896 + t.val, by omega⟩ p r) * x5 (ix3 p d r) := by
  pointwise [val_main_v72, val_main_v71, val_main_v70, val_main_v69, val_main_v68, val_main_v67, val_main_cst_8, half]

/-- The gradient of the first low-rank factor. -/
theorem da_apply (p : Fin 2) (d : Fin 3584) (r : Fin 32) :
    val_main_v76 (F := Ideal) x0 x1 x2 x6 (ix3 p d r)
      = half * ∑ t : Fin 1792, val_main_v64 (F := Ideal) x1 x2 x6 (ix3 t p r) * x0 (ix3 (bi t) (ti t) d) := by
  pointwise [val_main_v76, val_main_v75, val_main_v74, val_main_v73, val_main_cst_9, val_main_v0, half]

/-- The gradient of the second low-rank factor. -/
theorem db_apply (p : Fin 2) (r : Fin 32) (n : Fin 18944) :
    val_main_v79 (F := Ideal) x0 x1 x2 x5 (ix3 p r n)
      = half * ∑ t : Fin 1792, val_main_v66 (F := Ideal) x0 x5 (ix3 t p r) * val_main_v28 (F := Ideal) x1 x2 (ix3 t p n) := by
  pointwise [val_main_v79, val_main_v78, val_main_v77, val_main_cst_10, half]

/-- The returned projected cotangents. -/
theorem gOut_apply (b : Fin 2) (t : Fin 896) (p : Fin 2) (r : Fin 32) :
    val_main_v80 (F := Ideal) x1 x2 x6 (ix4 b t p r) = val_main_v64 (F := Ideal) x1 x2 x6 (ix3 ⟨b.val * 896 + t.val, by omega⟩ p r) := by
  pointwise [val_main_v80]

/-- The returned projected activations. -/
theorem xaOut_apply (b : Fin 2) (t : Fin 896) (p : Fin 2) (r : Fin 32) :
    val_main_v81 (F := Ideal) x0 x5 (ix4 b t p r) = val_main_v66 (F := Ideal) x0 x5 (ix3 ⟨b.val * 896 + t.val, by omega⟩ p r) := by
  pointwise [val_main_v81]

end Cert.Ref

end
-- ==== Proof.V.Host.lean ====
/- The host operations around the two kernels, read at an index: the arrays the kernels are given, and the results. -/
module

public import proofs.«01_k».proof.Proof.V.Blk
public import proofs.«01_k».proof.Proof.V.Ref
public import Idealize.ShloMosaic.Lib.StableHlo.ReadAt

@[expose] public section

set_option maxRecDepth 16384

noncomputable section

namespace Cert.KernelIdeal.Val

open Idealize.ShloMosaic Idealize.ShloMosaic.TcCoe Cert.KernelIdeal Cert.KernelIdeal.Gen Cert.Spec Cert.Ref

variable (m : (ℓ : Loc nD τ sig) → Buf (Elt Ideal) ℓ) (ρ : Dev nD → PrngReg) (c : Dev nD)

abbrev x0 : Vec Ideal S2x896x3584 .bf16 := m ((c : Thread nD τ).loc main_arg0)
abbrev x1 : Vec Ideal S2x896x18944 .bf16 := m ((c : Thread nD τ).loc main_arg1)
abbrev x2 : Vec Ideal S2x896x2x18944 .bf16 := m ((c : Thread nD τ).loc main_arg2)
abbrev x3 : Vec Ideal S1792x2x18944 .i8 := m ((c : Thread nD τ).loc main_arg3)
abbrev x4 : Vec Ideal S28x2x18944 .bf16 := m ((c : Thread nD τ).loc main_arg4)
abbrev x5 : Vec Ideal S2x3584x32 .bf16 := m ((c : Thread nD τ).loc main_arg5)
abbrev x6 : Vec Ideal S2x32x18944 .bf16 := m ((c : Thread nD τ).loc main_arg6)

/-! ## The arrays the kernels are given -/

/-- The activations are the argument, its batch flattened. -/
theorem aX_apply (t : Fin 1792) (d : Fin 3584) : aX (V1 m ρ) c (ix2 t d) = x0 m c (ix3 (bi t) (ti t) d) := by
  after_reads_at
/-- So are the upstream cotangents, -/
theorem aDh_apply (t : Fin 1792) (n : Fin 18944) : aDh (V1 m ρ) c (ix2 t n) = x1 m c (ix3 (bi t) (ti t) n) := by
  after_reads_at
/-- and the projections' outputs. -/
theorem aZ_apply (t : Fin 1792) (p : Fin 2) (n : Fin 18944) : aZ (V1 m ρ) c (ix3 t p n) = x2 m c (ix4 (bi t) (ti t) p n) := by
  after_reads_at
/-- The packed weights have their first two axes exchanged. -/
theorem aW_apply (j : Fin 1792) (p : Fin 2) (n : Fin 18944) : aW (V1 m ρ) c (ix3 p j n) = x3 m c (ix3 j p n) := by
  after_reads_at
/-- The first low-rank factor is transposed, its two projections stacked. -/
theorem aA_apply (k : Fin 64) (d : Fin 3584) :
    aA (V1 m ρ) c (ix2 k d) = x5 m c (ix3 ⟨k.val / 32, by omega⟩ d ⟨k.val % 32, Nat.mod_lt _ (by decide)⟩) := by
  after_reads_at

/-- The arrays the first kernel does not write are the same at the second. -/
theorem aX_eq : aX (V2 m ρ) c = aX (V1 m ρ) c := W2_of m ρ c main_v0 (by decide)
theorem aDh_eq : aDh (V2 m ρ) c = aDh (V1 m ρ) c := W2_of m ρ c main_v1 (by decide)
theorem aZ_eq : aZ (V2 m ρ) c = aZ (V1 m ρ) c := W2_of m ρ c main_v2 (by decide)
theorem aW_eq : aW (V2 m ρ) c = aW (V1 m ρ) c := W2_of m ρ c main_v3 (by decide)
theorem aA_eq : aA (V2 m ρ) c = aA (V1 m ρ) c := W2_of m ρ c main_v5 (by decide)
theorem aS_eq : aS (V2 m ρ) c = x4 m c := W2_args m ρ c main_arg4 (by decide)
theorem aB_eq : aB (V2 m ρ) c = x6 m c := W2_args m ρ c main_arg6 (by decide)
theorem aXa_eq : aXa (V2 m ρ) c = xaArr (V1 m ρ) c := (W2_arr m ρ c 2).trans (arr0_2 (V1 m ρ) c)

/-! ## The kernels' values are the reference's -/

/-- The projections' cotangents. -/
theorem dz_eq (p : Fin 2) (t : Fin 1792) (n : Fin 18944) :
    dzV (V2 m ρ) c p t n = Cert.ReferenceIdeal.Read.val_main_v28 (F := Ideal) (x1 m c) (x2 m c) (ix3 t p n) := by
  unfold dzV
  rw [aDh_eq, aZ_eq, aDh_apply, aZ_apply, aZ_apply, dz_apply]

/-- The dequantised weights. -/
theorem w_eq (d : Fin 3584) (p : Fin 2) (n : Fin 18944) : wV (V2 m ρ) c d p n = wRow (x3 m c) (x4 m c) d p n := by
  unfold wV wRow
  rw [aW_eq, aS_eq, aW_apply]

/-- The projected cotangents. -/
theorem g_eq (p : Fin 2) (r : Fin 32) (t : Fin 1792) :
    gEnd (V2 m ρ) c (ix3 p r t) = Cert.ReferenceIdeal.Read.val_main_v64 (F := Ideal) (x1 m c) (x2 m c) (x6 m c) (ix3 t p r) := by
  rw [gEnd_apply, g_apply, aB_eq]
  simp only [dz_eq]

/-- The projected activations. -/
theorem xa_eq (k : Fin 64) (t : Fin 1792) :
    xaArr (V1 m ρ) c (ix2 k t) = Cert.ReferenceIdeal.Read.val_main_v66 (F := Ideal) (x0 m c) (x5 m c)
      (ix3 t ⟨k.val / 32, by omega⟩ ⟨k.val % 32, Nat.mod_lt _ (by decide)⟩) := by
  rw [xa_apply]
  refine Finset.sum_congr rfl fun d _ => ?_
  exact (congrArg₂ (fun a b : EReal => a * b) (aA_apply m ρ c k d) (aX_apply m ρ c t d)).trans (mul_comm _ _)

/-- Row `32 p + r` of the stacked low-rank rows. -/
abbrev rw64 (p : Fin 2) (r : Fin 32) : Fin 64 := ⟨p.val * 32 + r.val, by omega⟩

/-- A function of a stacked row's two parts. -/
theorem at64 {α : Type} (g : Fin 2 → Fin 32 → α) (p : Fin 2) (r : Fin 32) :
    g ⟨(rw64 p r).val / 32, by omega⟩ ⟨(rw64 p r).val % 32, Nat.mod_lt _ (by decide)⟩ = g p r :=
  congrArg₂ g (Fin.ext (by show (p.val * 32 + r.val) / 32 = _; omega)) (Fin.ext (by show (p.val * 32 + r.val) % 32 = _; omega))

/-- A sum over the stacked low-rank rows. -/
theorem sum64 (g : Fin 2 → Fin 32 → EReal) :
    ∑ k : Fin 64, g ⟨k.val / 32, by omega⟩ ⟨k.val % 32, Nat.mod_lt _ (by decide)⟩ = ∑ p, ∑ r, g p r :=
  (Fin.sum_mul_add_congr (F := g) (f := fun k : Fin 64 => g ⟨k.val / 32, by omega⟩ ⟨k.val % 32, Nat.mod_lt _ (by decide)⟩)
    (fun p r hl => (at64 g p r).symm) rfl).symm

/-- The input's gradient. -/
theorem dx_eq (t : Fin 1792) (d : Fin 3584) : dxEnd (V2 m ρ) c (ix2 t d)
    = Cert.ReferenceIdeal.Read.val_main_v61 (F := Ideal) (x1 m c) (x2 m c) (x3 m c) (x4 m c) (ix2 t d)
      + half * ∑ p : Fin 2, ∑ r : Fin 32, Cert.ReferenceIdeal.Read.val_main_v64 (F := Ideal) (x1 m c) (x2 m c) (x6 m c) (ix3 t p r) * x5 m c (ix3 p d r) := by
  rw [dxEnd_apply, base_apply, ← sum64 fun p r => Cert.ReferenceIdeal.Read.val_main_v64 (F := Ideal) (x1 m c) (x2 m c) (x6 m c) (ix3 t p r) * x5 m c (ix3 p d r)]
  simp only [dz_eq, w_eq, g_eq]
  refine congrArg (_ + half * ·) (Finset.sum_congr rfl fun k _ => congrArg₂ (fun a b : EReal => a * b) rfl ?_)
  rw [aA_eq]
  exact aA_apply m ρ c k d

/-- The first low-rank factor's gradient. -/
theorem da_eq (p : Fin 2) (r : Fin 32) (d : Fin 3584) : daEnd (V2 m ρ) c (ix2 (rw64 p r) d)
    = Cert.ReferenceIdeal.Read.val_main_v76 (F := Ideal) (x0 m c) (x1 m c) (x2 m c) (x6 m c) (ix3 p d r) := by
  rw [daEnd_apply, Cert.Ref.da_apply]
  refine congrArg (half * ·) (Finset.sum_congr rfl fun t _ => congrArg₂ (fun a b : EReal => a * b) ?_ ?_)
  · rw [g_eq]
    exact at64 (fun p r => Cert.ReferenceIdeal.Read.val_main_v64 (F := Ideal) (x1 m c) (x2 m c) (x6 m c) (ix3 t p r)) p r
  · rw [aX_eq]
    exact aX_apply m ρ c t d

/-- The second low-rank factor's gradient. -/
theorem db_eq (p : Fin 2) (r : Fin 32) (n : Fin 18944) : dbArr (V2 m ρ) c (ix3 p r n)
    = Cert.ReferenceIdeal.Read.val_main_v79 (F := Ideal) (x0 m c) (x1 m c) (x2 m c) (x5 m c) (ix3 p r n) := by
  rw [Cert.Ref.db_apply]
  refine congrArg (half * ·) (Finset.sum_congr rfl fun t _ => congrArg₂ (fun a b : EReal => a * b) ?_ (dz_eq m ρ c p t n))
  rw [aXa_eq, ← at64 (fun p r => Cert.ReferenceIdeal.Read.val_main_v66 (F := Ideal) (x0 m c) (x5 m c) (ix3 t p r)) p r, ← xa_eq m ρ c (rw64 p r) t]
  exact congrArg (fun k => xaArr (V1 m ρ) c (ix2 k t)) (Fin.ext (by show 32 * p.val + r.val = p.val * 32 + r.val; omega))

/-! ## The results -/

/-- The input's gradient is returned with its batch restored, -/
theorem out0 (b : Fin 2) (t : Fin 896) (d : Fin 3584) : (W4 m ρ c main_v8 : Vec Ideal S2x896x3584 .bf16) (ix3 b t d)
    = (W3 m ρ c main_v7_0 : Vec Ideal S1792x3584 .bf16) (ix2 ⟨b.val * 896 + t.val, by omega⟩ d) := by
  after_reads_at
/-- the first low-rank factor's with its projections apart and transposed, -/
theorem out1 (p : Fin 2) (d : Fin 3584) (r : Fin 32) : (W4 m ρ c main_v10 : Vec Ideal S2x3584x32 .f32) (ix3 p d r)
    = (W3 m ρ c main_v7_1 : Vec Ideal S64x3584 .f32) (ix2 (rw64 p r) d) := by
  after_reads_at
/-- the projected cotangents by batch, token, projection and rank, -/
theorem out3 (b : Fin 2) (t : Fin 896) (p : Fin 2) (r : Fin 32) : (W4 m ρ c main_v12 : Vec Ideal S2x896x2x32 .bf16) (ix4 b t p r)
    = (W3 m ρ c main_v7_3 : Vec Ideal S64x1792 .bf16) (ix2 (rw64 p r) ⟨b.val * 896 + t.val, by omega⟩) := by
  after_reads_at
/-- the projected activations likewise. -/
theorem out4 (b : Fin 2) (t : Fin 896) (p : Fin 2) (r : Fin 32) : (W4 m ρ c main_v14 : Vec Ideal S2x896x2x32 .bf16) (ix4 b t p r)
    = (W3 m ρ c main_v6 : Vec Ideal S64x1792 .bf16) (ix2 (rw64 p r) ⟨b.val * 896 + t.val, by omega⟩) := by
  after_reads_at

/-- The input's gradient. -/
theorem res0 : (W4 m ρ c main_v8 : Vec Ideal S2x896x3584 .bf16)
    = Cert.ReferenceIdeal.Read.val_main_v72 (F := Ideal) (x1 m c) (x2 m c) (x3 m c) (x4 m c) (x5 m c) (x6 m c) := by
  funext y
  idx_vars y
  rw [out0, W3_dx, dx_eq, dx_apply]

/-- The first low-rank factor's gradient. -/
theorem res1 : (W4 m ρ c main_v10 : Vec Ideal S2x3584x32 .f32)
    = Cert.ReferenceIdeal.Read.val_main_v76 (F := Ideal) (x0 m c) (x1 m c) (x2 m c) (x6 m c) := by
  funext y
  idx_vars y
  refine (out1 m ρ c _ _ _).trans ?_
  rw [(W3_arr m ρ c 7).trans (arr1_7 (V2 m ρ) c), da_eq]

/-- The second low-rank factor's gradient. -/
theorem res2 : (W4 m ρ c main_v7_2 : Vec Ideal S2x32x18944 .f32)
    = Cert.ReferenceIdeal.Read.val_main_v79 (F := Ideal) (x0 m c) (x1 m c) (x2 m c) (x5 m c) := by
  rw [W4_of m ρ c main_v7_2 (by decide), (W3_arr m ρ c 8).trans (arr1_8 (V2 m ρ) c)]
  funext y
  idx_vars y
  exact db_eq m ρ c _ _ _

/-- The projected cotangents. -/
theorem res3 : (W4 m ρ c main_v12 : Vec Ideal S2x896x2x32 .bf16)
    = Cert.ReferenceIdeal.Read.val_main_v80 (F := Ideal) (x1 m c) (x2 m c) (x6 m c) := by
  funext y
  idx_vars y
  refine (out3 m ρ c _ _ _ _).trans ?_
  rw [(W3_arr m ρ c 9).trans (arr1_9 (V2 m ρ) c), Cert.Ref.gOut_apply]
  unfold gOut
  rw [gOut_apply, g_eq]
  exact at64 (fun p r => Cert.ReferenceIdeal.Read.val_main_v64 (F := Ideal) (x1 m c) (x2 m c) (x6 m c) (ix3 _ p r)) _ _

/-- The projected activations. -/
theorem res4 : (W4 m ρ c main_v14 : Vec Ideal S2x896x2x32 .bf16)
    = Cert.ReferenceIdeal.Read.val_main_v81 (F := Ideal) (x0 m c) (x5 m c) := by
  funext y
  idx_vars y
  refine (out4 m ρ c _ _ _ _).trans ?_
  rw [W3_of m ρ c main_v6 (by decide) (by decide), xaOut_apply]
  refine (congrFun (aXa_eq m ρ c) _).trans ((xa_eq m ρ c _ _).trans ?_)
  exact at64 (fun p r => Cert.ReferenceIdeal.Read.val_main_v66 (F := Ideal) (x0 m c) (x5 m c) (ix3 _ p r)) _ _

end Cert.KernelIdeal.Val

end
-- ==== Proof.lean ====
/- The proof of the certificate: the frames of the kernel, of its idealization and of the reference, that the idealization
   is the sanctioned one, and that it computes what the reference does. -/
module

public import proofs.«01_k».proof.Defs
public import proofs.«01_k».proof.Proof.Gen.Kernel
public import proofs.«01_k».proof.Proof.K.Run
public import proofs.«01_k».proof.Proof.Gen.KernelIdeal
public import proofs.«01_k».proof.Proof.KI.Run
public import proofs.«01_k».proof.Proof.Gen.ReferenceIdeal
public import proofs.«01_k».proof.Proof.Gen.ReferenceIdeal.Run
public import proofs.«01_k».proof.Proof.Gen.ReferenceIdeal.Read
public import proofs.«01_k».proof.Proof.V.Host
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Every execution of the kernel ends, with its arguments unchanged and every semaphore counter at zero. -/
theorem frame_kernel : Cert.quiescent_Kernel := fun m ρ _ => Cert.Kernel.Gen.frame m ρ

/-- The same of its idealization. -/
theorem frame_kernelIdeal : Cert.quiescent_KernelIdeal := fun m ρ _ => Cert.KernelIdeal.Gen.frame m ρ

/-- The same of the reference, which has no semaphore. -/
theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The idealization replaces a packed pair of bf16 words by its two halves, and nothing else. -/
theorem preserves : Cert.preserves_Kernel_KernelIdeal :=
  ⟨IdealRules.bf16_pair.statement _ _, IdealRules.bf16_pair.statement _ _⟩

/-- The run of the idealized kernel, each result at the reference's value of the arguments and the arguments unchanged. -/
theorem run_kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD, ∀ b ∈ Pipeline.ucRefs Cert.KernelIdeal.τ Cert.KernelIdeal.sig, r.2.mem (c, b) = Cert.KernelIdeal.Gen.W4 m g c b) :=
  (θ_run Cert.KernelIdeal.defs _ _).mono (fun r h => h.1) (Cert.KernelIdeal.Gen.run (F := Ideal) m g)

/-- The idealized kernel and the reference compute the same five results, at every argument. -/
theorem algebraic : Cert.algebraic_KernelIdeal_ReferenceIdeal := by
  intro m g m' g' _ hagree
  refine ⟨fun c => Cert.KernelIdeal.Gen.W4 m g c (Proc.devRef .tc Cert.KernelIdeal.main_v8), fun c => Cert.KernelIdeal.Gen.W4 m g c (Proc.devRef .tc Cert.KernelIdeal.main_v10),
    fun c => Cert.KernelIdeal.Gen.W4 m g c (Proc.devRef .tc Cert.KernelIdeal.main_v7_2), fun c => Cert.KernelIdeal.Gen.W4 m g c (Proc.devRef .tc Cert.KernelIdeal.main_v12),
    fun c => Cert.KernelIdeal.Gen.W4 m g c (Proc.devRef .tc Cert.KernelIdeal.main_v14), ?_, ?_⟩
  · refine (θ_run Cert.KernelIdeal.defs _ _).mono (fun r h c => ?_) (run_kernelIdeal m g)
    have ha : ∀ a ∈ Cert.KernelIdeal.Gen.argRefs, Proc.devRef .tc a ∈ Pipeline.ucRefs Cert.KernelIdeal.τ Cert.KernelIdeal.sig →
        r.2.mem ((c.tc : Thread Cert.KernelIdeal.nD Cert.KernelIdeal.τ).loc a) = m ((c.tc : Thread Cert.KernelIdeal.nD Cert.KernelIdeal.τ).loc a) :=
      fun a ha hu => (h c _ hu).trans (Cert.KernelIdeal.Gen.W4_args m g c a ha)
    exact ⟨h c _ (Cert.KernelIdeal.Gen.mem_uc _ (by decide)), h c _ (Cert.KernelIdeal.Gen.mem_uc _ (by decide)), h c _ (Cert.KernelIdeal.Gen.mem_uc _ (by decide)),
      h c _ (Cert.KernelIdeal.Gen.mem_uc _ (by decide)), h c _ (Cert.KernelIdeal.Gen.mem_uc _ (by decide)),
      ha _ (by decide) (Cert.KernelIdeal.Gen.mem_uc _ (by decide)), ha _ (by decide) (Cert.KernelIdeal.Gen.mem_uc _ (by decide)),
      ha _ (by decide) (Cert.KernelIdeal.Gen.mem_uc _ (by decide)), ha _ (by decide) (Cert.KernelIdeal.Gen.mem_uc _ (by decide)),
      ha _ (by decide) (Cert.KernelIdeal.Gen.mem_uc _ (by decide)), ha _ (by decide) (Cert.KernelIdeal.Gen.mem_uc _ (by decide)),
      ha _ (by decide) (Cert.KernelIdeal.Gen.mem_uc _ (by decide))⟩
  · refine (θ_run Cert.ReferenceIdeal.defs _ _).mono (fun r h c => ?_) (Cert.ReferenceIdeal.Value.run (F := Ideal) m' g')
    obtain ⟨e0, e1, e2, e3, e4, ha⟩ := h c
    obtain ⟨h0, h1, h2, h3, h4, h5, h6⟩ := hagree c
    rw [Cert.ReferenceIdeal.Read.val_main_v72_eq, h1, h2, h3, h4, h5, h6] at e0
    rw [Cert.ReferenceIdeal.Read.val_main_v76_eq, h0, h1, h2, h6] at e1
    rw [Cert.ReferenceIdeal.Read.val_main_v79_eq, h0, h1, h2, h5] at e2
    rw [Cert.ReferenceIdeal.Read.val_main_v80_eq, h1, h2, h6] at e3
    rw [Cert.ReferenceIdeal.Read.val_main_v81_eq, h0, h5] at e4
    exact ⟨e0.trans (Cert.KernelIdeal.Val.res0 m g c).symm, e1.trans (Cert.KernelIdeal.Val.res1 m g c).symm, e2.trans (Cert.KernelIdeal.Val.res2 m g c).symm,
      e3.trans (Cert.KernelIdeal.Val.res3 m g c).symm, e4.trans (Cert.KernelIdeal.Val.res4 m g c).symm, ha⟩

theorem claim : Cert.Claim := ⟨Cert.Kernel.Gen.facts, Cert.KernelIdeal.Gen.facts, Cert.ReferenceIdeal.Gen.facts,
  frame_kernel, frame_kernelIdeal, frame_reference, preserves, algebraic⟩

end Cert.Proof

end
